-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x256x384 : Shape := ⟨3, ![8, 256, 384]⟩
abbrev S1536x384 : Shape := ⟨2, ![1536, 384]⟩
abbrev S768x16 : Shape := ⟨2, ![768, 16]⟩
abbrev S56x768 : Shape := ⟨2, ![56, 768]⟩
abbrev S768x24 : Shape := ⟨2, ![768, 24]⟩
abbrev S768 : Shape := ⟨1, ![768]⟩
abbrev S384x768 : Shape := ⟨2, ![384, 768]⟩
abbrev S384 : Shape := ⟨1, ![384]⟩
abbrev S768x384 : Shape := ⟨2, ![768, 384]⟩
abbrev S24x768 : Shape := ⟨2, ![24, 768]⟩
abbrev S16x768 : Shape := ⟨2, ![16, 768]⟩
abbrev S1x768 : Shape := ⟨2, ![1, 768]⟩
abbrev S1x384 : Shape := ⟨2, ![1, 384]⟩
abbrev S256x768 : Shape := ⟨2, ![256, 768]⟩
abbrev S256x16 : Shape := ⟨2, ![256, 16]⟩
abbrev S256x1x16 : Shape := ⟨3, ![256, 1, 16]⟩
abbrev S256x16x768 : Shape := ⟨3, ![256, 16, 768]⟩
abbrev S1x256x384 : Shape := ⟨3, ![1, 256, 384]⟩
abbrev S256x384 : Shape := ⟨2, ![256, 384]⟩
abbrev S256x24 : Shape := ⟨2, ![256, 24]⟩
abbrev S16x16 : Shape := ⟨2, ![16, 16]⟩
abbrev S16x1x768 : Shape := ⟨3, ![16, 1, 768]⟩
abbrev S1x16x768 : Shape := ⟨3, ![1, 16, 768]⟩
abbrev S16x16x768 : Shape := ⟨3, ![16, 16, 768]⟩
abbrev S16x16x1 : Shape := ⟨3, ![16, 16, 1]⟩
abbrev S1x1x16 : Shape := ⟨3, ![1, 1, 16]⟩
abbrev S1x16 : Shape := ⟨2, ![1, 16]⟩
abbrev S256 : Shape := ⟨1, ![256]⟩
abbrev S256x1 : Shape := ⟨2, ![256, 1]⟩

abbrev nBuf : Space → Nat
  | .hbm => 28
  | .vmem => 27
  | .smem => 0
  | _ => 0

abbrev bufTy : (tb : Table) → Fin (tcTables nBuf tb) → BufTy
  | .hbm, ⟨0, _⟩ => ⟨S8x256x384, .f32⟩
  | .hbm, ⟨1, _⟩ => ⟨S1536x384, .f32⟩
  | .hbm, ⟨2, _⟩ => ⟨S768x16, .f32⟩
  | .hbm, ⟨3, _⟩ => ⟨S56x768, .f32⟩
  | .hbm, ⟨4, _⟩ => ⟨S768x24, .f32⟩
  | .hbm, ⟨5, _⟩ => ⟨S768, .f32⟩
  | .hbm, ⟨6, _⟩ => ⟨S768, .f32⟩
  | .hbm, ⟨7, _⟩ => ⟨S384x768, .f32⟩
  | .hbm, ⟨8, _⟩ => ⟨S384, .f32⟩
  | .hbm, ⟨9, _⟩ => ⟨S384, .f32⟩
  | .hbm, ⟨10, _⟩ => ⟨S768x384, .f32⟩
  | .hbm, ⟨11, _⟩ => ⟨S384x768, .f32⟩
  | .hbm, ⟨12, _⟩ => ⟨S768x384, .f32⟩
  | .hbm, ⟨13, _⟩ => ⟨S384x768, .f32⟩
  | .hbm, ⟨14, _⟩ => ⟨S24x768, .f32⟩
  | .hbm, ⟨15, _⟩ => ⟨S768x24, .f32⟩
  | .hbm, ⟨16, _⟩ => ⟨S16x768, .f32⟩
  | .hbm, ⟨17, _⟩ => ⟨S768x16, .f32⟩
  | .hbm, ⟨18, _⟩ => ⟨S16x768, .f32⟩
  | .hbm, ⟨19, _⟩ => ⟨S768x16, .f32⟩
  | .hbm, ⟨20, _⟩ => ⟨S24x768, .f32⟩
  | .hbm, ⟨21, _⟩ => ⟨S16x768, .f32⟩
  | .hbm, ⟨22, _⟩ => ⟨S768x384, .f32⟩
  | .hbm, ⟨23, _⟩ => ⟨S1x768, .f32⟩
  | .hbm, ⟨24, _⟩ => ⟨S1x768, .f32⟩
  | .hbm, ⟨25, _⟩ => ⟨S1x384, .f32⟩
  | .hbm, ⟨26, _⟩ => ⟨S1x384, .f32⟩
  | .hbm, ⟨27, _⟩ => ⟨S8x256x384, .f32⟩
  | .local _ .vmem, ⟨0, _⟩ => ⟨S8x256x384, .f32⟩
  | .local _ .vmem, ⟨1, _⟩ => ⟨S384x768, .f32⟩
  | .local _ .vmem, ⟨2, _⟩ => ⟨S384x768, .f32⟩
  | .local _ .vmem, ⟨3, _⟩ => ⟨S768x24, .f32⟩
  | .local _ .vmem, ⟨4, _⟩ => ⟨S768x16, .f32⟩
  | .local _ .vmem, ⟨5, _⟩ => ⟨S768x16, .f32⟩
  | .local _ .vmem, ⟨6, _⟩ => ⟨S24x768, .f32⟩
  | .local _ .vmem, ⟨7, _⟩ => ⟨S1x768, .f32⟩
  | .local _ .vmem, ⟨8, _⟩ => ⟨S16x768, .f32⟩
  | .local _ .vmem, ⟨9, _⟩ => ⟨S1x768, .f32⟩
  | .local _ .vmem, ⟨10, _⟩ => ⟨S768x384, .f32⟩
  | .local _ .vmem, ⟨11, _⟩ => ⟨S1x384, .f32⟩
  | .local _ .vmem, ⟨12, _⟩ => ⟨S1x384, .f32⟩
  | .local _ .vmem, ⟨13, _⟩ => ⟨S8x256x384, .f32⟩
  | .local _ .vmem, ⟨14, _⟩ => ⟨S256x768, .f32⟩
  | .local _ .vmem, ⟨15, _⟩ => ⟨S256x768, .f32⟩
  | .local _ .vmem, ⟨16, _⟩ => ⟨S256x768, .f32⟩
  | .local _ .vmem, ⟨17, _⟩ => ⟨S256x16, .f32⟩
  | .local _ .vmem, ⟨18, _⟩ => ⟨S256x16, .f32⟩
  | .local _ .vmem, ⟨19, _⟩ => ⟨S256x1x16, .f32⟩
  | .local _ .vmem, ⟨20, _⟩ => ⟨S16x768, .f32⟩
  | .local _ .vmem, ⟨21, _⟩ => ⟨S256x16x768, .f32⟩
  | .local _ .vmem, ⟨22, _⟩ => ⟨S256x16x768, .f32⟩
  | .local _ .vmem, ⟨23, _⟩ => ⟨S256x768, .f32⟩
  | .local _ .vmem, ⟨24, _⟩ => ⟨S256x768, .f32⟩
  | .local _ .vmem, ⟨25, _⟩ => ⟨S256x768, .f32⟩
  | .local _ .vmem, ⟨26, _⟩ => ⟨S256x768, .f32⟩
  | _, _ => ⟨S8x256x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_v15 : Ref sig .tc := ⟨.hbm, 25, rfl⟩
abbrev main_call0_v16 : Ref sig .tc := ⟨.hbm, 26, rfl⟩
abbrev main_v0 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_scratch8 : Ref sig .tc := ⟨.vmem, 22, rfl⟩
abbrev cc0_scratch9 : Ref sig .tc := ⟨.vmem, 23, rfl⟩
abbrev cc0_scratch10 : Ref sig .tc := ⟨.vmem, 24, rfl⟩
abbrev cc0_scratch11 : Ref sig .tc := ⟨.vmem, 25, rfl⟩
abbrev cc0_scratch12 : Ref sig .tc := ⟨.vmem, 26, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c8_i32 : BitVec 32 := 8#32
  let v8 : BitVec 32 := Scalar.addi c0_i32 c8_i32
  let c1_i32 : BitVec 32 := 1#32
  ⟨c0_i32, v8, c1_i32⟩
def k0_off1 (k0_t1 : Fin k0_t1_loop.trips) : Fin 3 → Nat :=
  let c0_i32 : BitVec 32 := 0#32
  let c1_i32 : BitVec 32 := 1#32
  let arg27 : BitVec 32 := Scf.iv c0_i32 c1_i32 k0_t1
  let v9 : Index := Scalar.indexCast arg27
  let c0_4 : Index := 0#32
  let c0_5 : Index := 0#32
  ![v9.toNat, 0, 0]
@[reducible] def k0_t2_loop : Scf.Loop 32 :=
  let c0_i32_41 : BitVec 32 := 0#32
  let c16_i32 : BitVec 32 := 16#32
  let v54 : BitVec 32 := Scalar.addi c0_i32_41 c16_i32
  let c1_i32_42 : BitVec 32 := 1#32
  ⟨c0_i32_41, v54, c1_i32_42⟩
def k0_off2 (k0_t2 : Fin k0_t2_loop.trips) : Fin 2 → Nat :=
  let c0_i32_41 : BitVec 32 := 0#32
  let c1_i32_42 : BitVec 32 := 1#32
  let arg28 : BitVec 32 := Scf.iv c0_i32_41 c1_i32_42 k0_t2
  let c16_i32_80 : BitVec 32 := 16#32
  let v121 : BitVec 32 := Scalar.muli arg28 c16_i32_80
  let v122 : Index := Scalar.indexCast v121
  let c0_81 : Index := 0#32
  ![v122.toNat, 0]
def k0_off3 (k0_t2 : Fin k0_t2_loop.trips) : Fin 2 → Nat :=
  let c0_i32_41 : BitVec 32 := 0#32
  let c1_i32_42 : BitVec 32 := 1#32
  let arg28 : BitVec 32 := Scf.iv c0_i32_41 c1_i32_42 k0_t2
  let c16_i32_80 : BitVec 32 := 16#32
  let v121 : BitVec 32 := Scalar.muli arg28 c16_i32_80
  let v134 : Index := Scalar.indexCast v121
  let c0_85 : Index := 0#32
  ![v134.toNat, 0]
def k0_off4 (k0_t2 : Fin k0_t2_loop.trips) : Fin 3 → Nat :=
  let c0_i32_41 : BitVec 32 := 0#32
  let c1_i32_42 : BitVec 32 := 1#32
  let arg28 : BitVec 32 := Scf.iv c0_i32_41 c1_i32_42 k0_t2
  let c16_i32_80 : BitVec 32 := 16#32
  let v121 : BitVec 32 := Scalar.muli arg28 c16_i32_80
  let v143 : Index := Scalar.indexCast v121
  let c0_88 : Index := 0#32
  let c0_89 : Index := 0#32
  ![v143.toNat, 0, 0]
@[reducible] def k0_t3_loop : Scf.Loop 32 :=
  let c0_i32_45 : BitVec 32 := 0#32
  let c2_i32 : BitVec 32 := 2#32
  let v56 : BitVec 32 := Scalar.addi c0_i32_45 c2_i32
  let c1_i32_46 : BitVec 32 := 1#32
  ⟨c0_i32_45, v56, c1_i32_46⟩
def k0_mult1 (k0_t3 : Fin k0_t3_loop.trips) : BitVec 32 :=
  let c128_i32 : BitVec 32 := 128#32
  let c0_i32_45 : BitVec 32 := 0#32
  let c1_i32_46 : BitVec 32 := 1#32
  let arg28 : BitVec 32 := Scf.iv c0_i32_45 c1_i32_46 k0_t3
  let v121 : BitVec 32 := Scalar.muli c128_i32 arg28
  v121
def k0_mult2 (k0_t3 : Fin k0_t3_loop.trips) : BitVec 32 :=
  let c128_i32_81 : BitVec 32 := 128#32
  let c128_i32_80 : BitVec 32 := 128#32
  let c0_i32_45 : BitVec 32 := 0#32
  let c1_i32_46 : BitVec 32 := 1#32
  let arg28 : BitVec 32 := Scf.iv c0_i32_45 c1_i32_46 k0_t3
  let v123 : BitVec 32 := Scalar.muli c128_i32_80 arg28
  let v124 : BitVec 32 := Scalar.subi c128_i32_81 v123
  v124
def k0_off5 (k0_t3 : Fin k0_t3_loop.trips) (c0_i32_83 : BitVec 32) : Fin 3 → Nat :=
  let c128_i32_82 : BitVec 32 := 128#32
  let c0_i32_45 : BitVec 32 := 0#32
  let c1_i32_46 : BitVec 32 := 1#32
  let arg28 : BitVec 32 := Scf.iv c0_i32_45 c1_i32_46 k0_t3
  let v126 : BitVec 32 := Scalar.muli c128_i32_82 arg28
  let v127 : BitVec 32 := Scalar.addi v126 c0_i32_83
  let v128 : Index := Scalar.indexCast v127
  let c0_84 : Index := 0#32
  let c0_85 : Index := 0#32
  ![v128.toNat, 0, 0]
def k0_off6 (k0_t3 : Fin k0_t3_loop.trips) (c0_i32_83 : BitVec 32) : Fin 3 → Nat :=
  let c128_i32_82 : BitVec 32 := 128#32
  let c0_i32_45 : BitVec 32 := 0#32
  let c1_i32_46 : BitVec 32 := 1#32
  let arg28 : BitVec 32 := Scf.iv c0_i32_45 c1_i32_46 k0_t3
  let v126 : BitVec 32 := Scalar.muli c128_i32_82 arg28
  let v127 : BitVec 32 := Scalar.addi v126 c0_i32_83
  let v136 : Index := Scalar.indexCast v127
  let c0_88 : Index := 0#32
  let c0_89 : Index := 0#32
  ![v136.toNat, 0, 0]
def k0_off7 (k0_t3 : Fin k0_t3_loop.trips) (c0_i32_91 : BitVec 32) : Fin 2 → Nat :=
  let c128_i32 : BitVec 32 := 128#32
  let c0_i32_45 : BitVec 32 := 0#32
  let c1_i32_46 : BitVec 32 := 1#32
  let arg28 : BitVec 32 := Scf.iv c0_i32_45 c1_i32_46 k0_t3
  let v121 : BitVec 32 := Scalar.muli c128_i32 arg28
  let v122 : BitVec 32 := v121
  let v140 : BitVec 32 := Scalar.addi v122 c0_i32_91
  let v141 : Index := Scalar.indexCast v140
  let c0_92 : Index := 0#32
  ![v141.toNat, 0]
def k0_off8 (k0_t3 : Fin k0_t3_loop.trips) (c0_i32_94 : BitVec 32) : Fin 3 → Nat :=
  let c255_i32 : BitVec 32 := 255#32
  let c128_i32_93 : BitVec 32 := 128#32
  let c0_i32_45 : BitVec 32 := 0#32
  let c1_i32_46 : BitVec 32 := 1#32
  let arg28 : BitVec 32 := Scf.iv c0_i32_45 c1_i32_46 k0_t3
  let v145 : BitVec 32 := Scalar.muli c128_i32_93 arg28
  let v146 : BitVec 32 := Scalar.addi v145 c0_i32_94
  let v147 : BitVec 32 := Scalar.subi c255_i32 v146
  let v148 : Index := Scalar.indexCast v147
  let c0_95 : Index := 0#32
  let c0_96 : Index := 0#32
  ![v148.toNat, 0, 0]
def k0_off9 (k0_t3 : Fin k0_t3_loop.trips) (c0_i32_94 : BitVec 32) : Fin 3 → Nat :=
  let c255_i32 : BitVec 32 := 255#32
  let c128_i32_93 : BitVec 32 := 128#32
  let c0_i32_45 : BitVec 32 := 0#32
  let c1_i32_46 : BitVec 32 := 1#32
  let arg28 : BitVec 32 := Scf.iv c0_i32_45 c1_i32_46 k0_t3
  let v145 : BitVec 32 := Scalar.muli c128_i32_93 arg28
  let v146 : BitVec 32 := Scalar.addi v145 c0_i32_94
  let v147 : BitVec 32 := Scalar.subi c255_i32 v146
  let v156 : Index := Scalar.indexCast v147
  let c0_99 : Index := 0#32
  let c0_100 : Index := 0#32
  ![v156.toNat, 0, 0]
def k0_off10 (k0_t3 : Fin k0_t3_loop.trips) (c127_i32 : BitVec 32) : Fin 2 → Nat :=
  let c128_i32_81 : BitVec 32 := 128#32
  let c128_i32_80 : BitVec 32 := 128#32
  let c0_i32_45 : BitVec 32 := 0#32
  let c1_i32_46 : BitVec 32 := 1#32
  let arg28 : BitVec 32 := Scf.iv c0_i32_45 c1_i32_46 k0_t3
  let v123 : BitVec 32 := Scalar.muli c128_i32_80 arg28
  let v124 : BitVec 32 := Scalar.subi c128_i32_81 v123
  let v125 : BitVec 32 := v124
  let v160 : BitVec 32 := Scalar.addi v125 c127_i32
  let v161 : Index := Scalar.indexCast v160
  let c0_102 : Index := 0#32
  ![v161.toNat, 0]
def k0_off11 (k0_t3 : Fin k0_t3_loop.trips) (c0_i32_104 : BitVec 32) : Fin 3 → Nat :=
  let c128_i32_103 : BitVec 32 := 128#32
  let c0_i32_45 : BitVec 32 := 0#32
  let c1_i32_46 : BitVec 32 := 1#32
  let arg28 : BitVec 32 := Scf.iv c0_i32_45 c1_i32_46 k0_t3
  let v165 : BitVec 32 := Scalar.muli c128_i32_103 arg28
  let v166 : BitVec 32 := Scalar.addi v165 c0_i32_104
  let c15_i32 : BitVec 32 := 15#32
  let v167 : BitVec 32 := Scalar.andi v166 c15_i32
  let c4_i32 : BitVec 32 := 4#32
  let v168 : BitVec 32 := Scalar.shli v167 c4_i32
  let c4_i32_105 : BitVec 32 := 4#32
  let v169 : BitVec 32 := Scalar.shrsi v166 c4_i32_105
  let v170 : BitVec 32 := Scalar.ori v168 v169
  let v171 : Index := Scalar.indexCast v170
  let c0_106 : Index := 0#32
  let c0_107 : Index := 0#32
  ![v171.toNat, 0, 0]
def k0_off12 (k0_t3 : Fin k0_t3_loop.trips) (c0_i32_104 : BitVec 32) : Fin 3 → Nat :=
  let c128_i32_103 : BitVec 32 := 128#32
  let c0_i32_45 : BitVec 32 := 0#32
  let c1_i32_46 : BitVec 32 := 1#32
  let arg28 : BitVec 32 := Scf.iv c0_i32_45 c1_i32_46 k0_t3
  let v165 : BitVec 32 := Scalar.muli c128_i32_103 arg28
  let v166 : BitVec 32 := Scalar.addi v165 c0_i32_104
  let c15_i32 : BitVec 32 := 15#32
  let v167 : BitVec 32 := Scalar.andi v166 c15_i32
  let c4_i32 : BitVec 32 := 4#32
  let v168 : BitVec 32 := Scalar.shli v167 c4_i32
  let c4_i32_105 : BitVec 32 := 4#32
  let v169 : BitVec 32 := Scalar.shrsi v166 c4_i32_105
  let v170 : BitVec 32 := Scalar.ori v168 v169
  let v179 : Index := Scalar.indexCast v170
  let c0_110 : Index := 0#32
  let c0_111 : Index := 0#32
  ![v179.toNat, 0, 0]
def k0_off13 (k0_t3 : Fin k0_t3_loop.trips) (c0_i32_116 : BitVec 32) : Fin 3 → Nat :=
  let c255_i32_117 : BitVec 32 := 255#32
  let c128_i32_115 : BitVec 32 := 128#32
  let c0_i32_45 : BitVec 32 := 0#32
  let c1_i32_46 : BitVec 32 := 1#32
  let arg28 : BitVec 32 := Scf.iv c0_i32_45 c1_i32_46 k0_t3
  let v188 : BitVec 32 := Scalar.muli c128_i32_115 arg28
  let v189 : BitVec 32 := Scalar.addi v188 c0_i32_116
  let v190 : BitVec 32 := Scalar.subi c255_i32_117 v189
  let c15_i32_118 : BitVec 32 := 15#32
  let v191 : BitVec 32 := Scalar.andi v190 c15_i32_118
  let c4_i32_119 : BitVec 32 := 4#32
  let v192 : BitVec 32 := Scalar.shli v191 c4_i32_119
  let c4_i32_120 : BitVec 32 := 4#32
  let v193 : BitVec 32 := Scalar.shrsi v190 c4_i32_120
  let v194 : BitVec 32 := Scalar.ori v192 v193
  let v195 : Index := Scalar.indexCast v194
  let c0_121 : Index := 0#32
  let c0_122 : Index := 0#32
  ![v195.toNat, 0, 0]
def k0_off14 (k0_t3 : Fin k0_t3_loop.trips) (c0_i32_116 : BitVec 32) : Fin 3 → Nat :=
  let c255_i32_117 : BitVec 32 := 255#32
  let c128_i32_115 : BitVec 32 := 128#32
  let c0_i32_45 : BitVec 32 := 0#32
  let c1_i32_46 : BitVec 32 := 1#32
  let arg28 : BitVec 32 := Scf.iv c0_i32_45 c1_i32_46 k0_t3
  let v188 : BitVec 32 := Scalar.muli c128_i32_115 arg28
  let v189 : BitVec 32 := Scalar.addi v188 c0_i32_116
  let v190 : BitVec 32 := Scalar.subi c255_i32_117 v189
  let c15_i32_118 : BitVec 32 := 15#32
  let v191 : BitVec 32 := Scalar.andi v190 c15_i32_118
  let c4_i32_119 : BitVec 32 := 4#32
  let v192 : BitVec 32 := Scalar.shli v191 c4_i32_119
  let c4_i32_120 : BitVec 32 := 4#32
  let v193 : BitVec 32 := Scalar.shrsi v190 c4_i32_120
  let v194 : BitVec 32 := Scalar.ori v192 v193
  let v203 : Index := Scalar.indexCast v194
  let c0_125 : Index := 0#32
  let c0_126 : Index := 0#32
  ![v203.toNat, 0, 0]
abbrev stage0_0 : Fin 1 → Memref sig .tc .vmem S8x256x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S384x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S384x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x24 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S768x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S768x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S768x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x384 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S8x256x384 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== ReferenceIdeal.lean ====
abbrev S8x256x384 : Shape := ⟨3, ![8, 256, 384]⟩
abbrev S1536x384 : Shape := ⟨2, ![1536, 384]⟩
abbrev S768x16 : Shape := ⟨2, ![768, 16]⟩
abbrev S56x768 : Shape := ⟨2, ![56, 768]⟩
abbrev S768x24 : Shape := ⟨2, ![768, 24]⟩
abbrev S768 : Shape := ⟨1, ![768]⟩
abbrev S384x768 : Shape := ⟨2, ![384, 768]⟩
abbrev S384 : Shape := ⟨1, ![384]⟩
abbrev S384x1536 : Shape := ⟨2, ![384, 1536]⟩
abbrev S8x256x1536 : Shape := ⟨3, ![8, 256, 1536]⟩
abbrev S8x256x768 : Shape := ⟨3, ![8, 256, 768]⟩
abbrev S8x16x16x768 : Shape := ⟨4, ![8, 16, 16, 768]⟩
abbrev S32x256x768 : Shape := ⟨3, ![32, 256, 768]⟩
abbrev S768x56 : Shape := ⟨2, ![768, 56]⟩
abbrev S32x256x56 : Shape := ⟨3, ![32, 256, 56]⟩
abbrev S32x256x24 : Shape := ⟨3, ![32, 256, 24]⟩
abbrev S32x256x16 : Shape := ⟨3, ![32, 256, 16]⟩
abbrev S24x768 : Shape := ⟨2, ![24, 768]⟩
abbrev S1x1x768 : Shape := ⟨3, ![1, 1, 768]⟩
abbrev S_ : Shape := ⟨0, ![]⟩
abbrev S32x256x768x1 : Shape := ⟨4, ![32, 256, 768, 1]⟩
abbrev S1x1x768x16 : Shape := ⟨4, ![1, 1, 768, 16]⟩
abbrev S32x256x768x16 : Shape := ⟨4, ![32, 256, 768, 16]⟩
abbrev S32x256x1x16 : Shape := ⟨4, ![32, 256, 1, 16]⟩
abbrev S32x768x16 : Shape := ⟨3, ![32, 768, 16]⟩
abbrev S256x32x768x16 : Shape := ⟨4, ![256, 32, 768, 16]⟩
abbrev S256x32x16 : Shape := ⟨3, ![256, 32, 16]⟩
abbrev S256x32x768 : Shape := ⟨3, ![256, 32, 768]⟩
abbrev S1x32x768x16 : Shape := ⟨4, ![1, 32, 768, 16]⟩
abbrev S1x32x16 : Shape := ⟨3, ![1, 32, 16]⟩
abbrev S32x16 : Shape := ⟨2, ![32, 16]⟩
abbrev S32x768 : Shape := ⟨2, ![32, 768]⟩
abbrev S1x32x768 : Shape := ⟨3, ![1, 32, 768]⟩
abbrev S768x384 : Shape := ⟨2, ![768, 384]⟩
abbrev S8x256 : Shape := ⟨2, ![8, 256]⟩
abbrev S8x256x1 : Shape := ⟨3, ![8, 256, 1]⟩
abbrev S1x1x384 : Shape := ⟨3, ![1, 1, 384]⟩

abbrev nBuf : Space → Nat
  | .hbm => 179
  | .vmem => 0
  | .smem => 0
  | _ => 0

abbrev hbmTy0_0 (i : Nat) : BufTy := match i % 128 with
  | 0 => ⟨S8x256x384, .f32⟩
  | 1 => ⟨S1536x384, .f32⟩
  | 2 => ⟨S768x16, .f32⟩
  | 3 => ⟨S56x768, .f32⟩
  | 4 => ⟨S768x24, .f32⟩
  | 5 => ⟨S768, .f32⟩
  | 6 => ⟨S768, .f32⟩
  | 7 => ⟨S384x768, .f32⟩
  | 8 => ⟨S384, .f32⟩
  | 9 => ⟨S384, .f32⟩
  | 10 => ⟨S384x1536, .f32⟩
  | 11 => ⟨S8x256x1536, .f32⟩
  | 12 => ⟨S8x256x768, .f32⟩
  | 13 => ⟨S8x256x768, .f32⟩
  | 14 => ⟨S8x16x16x768, .f32⟩
  | 15 => ⟨S8x16x16x768, .f32⟩
  | 16 => ⟨S8x256x768, .f32⟩
  | 17 => ⟨S8x256x768, .f32⟩
  | 18 => ⟨S8x256x768, .f32⟩
  | 19 => ⟨S32x256x768, .f32⟩
  | 20 => ⟨S768x56, .f32⟩
  | 21 => ⟨S32x256x56, .f32⟩
  | 22 => ⟨S32x256x24, .f32⟩
  | 23 => ⟨S32x256x16, .f32⟩
  | 24 => ⟨S32x256x16, .f32⟩
  | 25 => ⟨S24x768, .f32⟩
  | 26 => ⟨S32x256x768, .f32⟩
  | 27 => ⟨S1x1x768, .f32⟩
  | 28 => ⟨S32x256x768, .f32⟩
  | 29 => ⟨S32x256x768, .f32⟩
  | 30 => ⟨S_, .f32⟩
  | 31 => ⟨S32x256x768, .f32⟩
  | 32 => ⟨S32x256x768, .f32⟩
  | 33 => ⟨S32x256x768, .f32⟩
  | 34 => ⟨S32x256x768, .f32⟩
  | 35 => ⟨S32x256x768, .i1⟩
  | 36 => ⟨S32x256x768, .f32⟩
  | 37 => ⟨S32x256x768, .f32⟩
  | 38 => ⟨S32x256x768, .f32⟩
  | 39 => ⟨S32x256x768, .f32⟩
  | 40 => ⟨S32x256x768, .f32⟩
  | 41 => ⟨S32x256x768, .f32⟩
  | 42 => ⟨S32x256x768, .f32⟩
  | 43 => ⟨S32x256x768, .f32⟩
  | 44 => ⟨S768x16, .f32⟩
  | 45 => ⟨S768x16, .f32⟩
  | 46 => ⟨S32x256x768x1, .f32⟩
  | 47 => ⟨S1x1x768x16, .f32⟩
  | 48 => ⟨S32x256x768x16, .f32⟩
  | 49 => ⟨S32x256x768x16, .f32⟩
  | 50 => ⟨S32x256x768x16, .f32⟩
  | 51 => ⟨S32x256x768x16, .f32⟩
  | 52 => ⟨S32x256x768x1, .f32⟩
  | 53 => ⟨S32x256x1x16, .f32⟩
  | 54 => ⟨S32x256x768x16, .f32⟩
  | 55 => ⟨S32x256x768x16, .f32⟩
  | 56 => ⟨S32x256x768x16, .f32⟩
  | 57 => ⟨S32x256x768x1, .f32⟩
  | 58 => ⟨S32x256x768x16, .f32⟩
  | 59 => ⟨S32x256x768x16, .f32⟩
  | 60 => ⟨S_, .f32⟩
  | 61 => ⟨S32x768x16, .f32⟩
  | 62 => ⟨S256x32x768x16, .f32⟩
  | 63 => ⟨S256x32x768x16, .f32⟩
  | 64 => ⟨S256x32x16, .f32⟩
  | 65 => ⟨S_, .f32⟩
  | 66 => ⟨S256x32x768, .f32⟩
  | 67 => ⟨S_, .i32⟩
  | 68 => ⟨S256x32x768x16, .f32⟩
  | 69 => ⟨S256x32x768x16, .f32⟩
  | 70 => ⟨S256x32x16, .f32⟩
  | 71 => ⟨S_, .i32⟩
  | 72 => ⟨S32x768x16, .f32⟩
  | 73 => ⟨S256x32x768, .f32⟩
  | 74 => ⟨S_, .i32⟩
  | 75 => ⟨S_, .i1⟩
  | 76 => ⟨S_, .i32⟩
  | 77 => ⟨S_, .i32⟩
  | 78 => ⟨S_, .i32⟩
  | 79 => ⟨S1x32x768x16, .f32⟩
  | 80 => ⟨S32x768x16, .f32⟩
  | 81 => ⟨S_, .i32⟩
  | 82 => ⟨S_, .i32⟩
  | 83 => ⟨S_, .i32⟩
  | 84 => ⟨S1x32x768x16, .f32⟩
  | 85 => ⟨S32x768x16, .f32⟩
  | 86 => ⟨S_, .i32⟩
  | 87 => ⟨S_, .i32⟩
  | 88 => ⟨S1x32x16, .f32⟩
  | 89 => ⟨S32x16, .f32⟩
  | 90 => ⟨S32x768x16, .f32⟩
  | 91 => ⟨S32x768x16, .f32⟩
  | 92 => ⟨S32x768, .f32⟩
  | 93 => ⟨S1x32x768, .f32⟩
  | 94 => ⟨S_, .i32⟩
  | 95 => ⟨S_, .i32⟩
  | 96 => ⟨S256x32x768, .f32⟩
  | 97 => ⟨S_, .i32⟩
  | 98 => ⟨S_, .i32⟩
  | 99 => ⟨S32x256x768, .f32⟩
  | 100 => ⟨S8x256x768, .f32⟩
  | 101 => ⟨S8x256x768, .f32⟩
  | 102 => ⟨S8x256x768, .f32⟩
  | 103 => ⟨S8x256x768, .f32⟩
  | 104 => ⟨S8x16x16x768, .f32⟩
  | 105 => ⟨S8x16x16x768, .f32⟩
  | 106 => ⟨S8x256x768, .f32⟩
  | 107 => ⟨S8x256x768, .f32⟩
  | 108 => ⟨S8x256x768, .f32⟩
  | 109 => ⟨S8x16x16x768, .f32⟩
  | 110 => ⟨S8x16x16x768, .f32⟩
  | 111 => ⟨S8x256x768, .f32⟩
  | 112 => ⟨S8x256x768, .f32⟩
  | 113 => ⟨S8x256x768, .f32⟩
  | 114 => ⟨S8x256x768, .f32⟩
  | 115 => ⟨S_, .f32⟩
  | 116 => ⟨S8x256x768, .f32⟩
  | 117 => ⟨S8x256x768, .f32⟩
  | 118 => ⟨S8x256x768, .f32⟩
  | 119 => ⟨S8x256x768, .f32⟩
  | 120 => ⟨S_, .f32⟩
  | 121 => ⟨S8x256x768, .f32⟩
  | 122 => ⟨S8x256x768, .f32⟩
  | 123 => ⟨S_, .f32⟩
  | 124 => ⟨S8x256x768, .f32⟩
  | 125 => ⟨S8x256x768, .f32⟩
  | 126 => ⟨S8x256x768, .f32⟩
  | 127 => ⟨S8x256x768, .f32⟩
  | _ => ⟨S8x256x384, .f32⟩

abbrev hbmTy0_1 (i : Nat) : BufTy := match i % 128 with
  | 0 => ⟨S1x1x768, .f32⟩
  | 1 => ⟨S8x256x768, .f32⟩
  | 2 => ⟨S8x256x768, .f32⟩
  | 3 => ⟨S8x256x768, .f32⟩
  | 4 => ⟨S768x384, .f32⟩
  | 5 => ⟨S8x256x384, .f32⟩
  | 6 => ⟨S8x256x384, .f32⟩
  | 7 => ⟨S_, .f32⟩
  | 8 => ⟨S8x256, .f32⟩
  | 9 => ⟨S8x256x1, .f32⟩
  | 10 => ⟨S_, .f32⟩
  | 11 => ⟨S8x256x1, .f32⟩
  | 12 => ⟨S8x256x1, .f32⟩
  | 13 => ⟨S_, .i32⟩
  | 14 => ⟨S_, .f32⟩
  | 15 => ⟨S8x256, .f32⟩
  | 16 => ⟨S8x256x1, .f32⟩
  | 17 => ⟨S_, .f32⟩
  | 18 => ⟨S8x256x1, .f32⟩
  | 19 => ⟨S8x256x1, .f32⟩
  | 20 => ⟨S8x256x384, .f32⟩
  | 21 => ⟨S8x256x384, .f32⟩
  | 22 => ⟨S8x256x384, .f32⟩
  | 23 => ⟨S_, .f32⟩
  | 24 => ⟨S_, .f32⟩
  | 25 => ⟨S_, .f32⟩
  | 26 => ⟨S_, .f32⟩
  | 27 => ⟨S8x256, .f32⟩
  | 28 => ⟨S8x256x1, .f32⟩
  | 29 => ⟨S8x256x1, .f32⟩
  | 30 => ⟨S8x256x1, .f32⟩
  | 31 => ⟨S_, .f32⟩
  | 32 => ⟨S_, .i1⟩
  | 33 => ⟨S_, .f32⟩
  | 34 => ⟨S_, .f32⟩
  | 35 => ⟨S8x256x1, .f32⟩
  | 36 => ⟨S8x256x1, .f32⟩
  | 37 => ⟨S8x256x384, .f32⟩
  | 38 => ⟨S8x256x384, .f32⟩
  | 39 => ⟨S_, .f32⟩
  | 40 => ⟨S8x256x1, .f32⟩
  | 41 => ⟨S8x256x1, .f32⟩
  | 42 => ⟨S8x256x1, .f32⟩
  | 43 => ⟨S8x256x384, .f32⟩
  | 44 => ⟨S8x256x384, .f32⟩
  | 45 => ⟨S1x1x384, .f32⟩
  | 46 => ⟨S8x256x384, .f32⟩
  | 47 => ⟨S8x256x384, .f32⟩
  | 48 => ⟨S1x1x384, .f32⟩
  | 49 => ⟨S8x256x384, .f32⟩
  | 50 => ⟨S8x256x384, .f32⟩
  | _ => ⟨S8x256x384, .f32⟩

abbrev hbmTy (i : Nat) : BufTy := match i / 128 with
  | 0 => hbmTy0_0 i
  | 1 => hbmTy0_1 i
  | _ => ⟨S8x256x384, .f32⟩

abbrev bufTy : (tb : Table) → Fin (tcTables nBuf tb) → BufTy
  | .hbm, ⟨i, _⟩ => hbmTy i
  | _, _ => ⟨S8x256x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call2_cst : Ref sig .tc := ⟨.hbm, 30, rfl⟩
abbrev main_call2_v0 : Ref sig .tc := ⟨.hbm, 31, rfl⟩
abbrev main_call2_v1 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_v5 : Ref sig .tc := ⟨.hbm, 36, rfl⟩
abbrev main_call2_v6 : Ref sig .tc := ⟨.hbm, 37, rfl⟩
abbrev main_call2_v7 : Ref sig .tc := ⟨.hbm, 38, rfl⟩
abbrev main_call2_v8 : Ref sig .tc := ⟨.hbm, 39, rfl⟩
abbrev main_call2_v9 : Ref sig .tc := ⟨.hbm, 40, rfl⟩
abbrev main_call2_v10 : Ref sig .tc := ⟨.hbm, 41, rfl⟩
abbrev main_call2_v11 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_0 : Ref sig .tc := ⟨.hbm, 65, rfl⟩
abbrev main_v41 : Ref sig .tc := ⟨.hbm, 66, rfl⟩
abbrev main_c : Ref sig .tc := ⟨.hbm, 67, rfl⟩
abbrev main_v42_0 : Ref sig .tc := ⟨.hbm, 68, rfl⟩
abbrev main_v42_1 : Ref sig .tc := ⟨.hbm, 69, rfl⟩
abbrev main_v42_2 : Ref sig .tc := ⟨.hbm, 70, rfl⟩
abbrev main_v42_3 : Ref sig .tc := ⟨.hbm, 71, rfl⟩
abbrev main_v42_4 : Ref sig .tc := ⟨.hbm, 72, rfl⟩
abbrev main_v42_5 : Ref sig .tc := ⟨.hbm, 73, rfl⟩
abbrev main_while0c_c_11 : Ref sig .tc := ⟨.hbm, 74, rfl⟩
abbrev main_while0c_v88 : Ref sig .tc := ⟨.hbm, 75, rfl⟩
abbrev main_while0b_call3_c : Ref sig .tc := ⟨.hbm, 76, rfl⟩
abbrev main_while0b_call3_c_0 : Ref sig .tc := ⟨.hbm, 77, rfl⟩
abbrev main_while0b_call3_c_1 : Ref sig .tc := ⟨.hbm, 78, rfl⟩
abbrev main_while0b_call3_v0 : Ref sig .tc := ⟨.hbm, 79, rfl⟩
abbrev main_while0b_v88 : Ref sig .tc := ⟨.hbm, 80, rfl⟩
abbrev main_while0b_call4_c : Ref sig .tc := ⟨.hbm, 81, rfl⟩
abbrev main_while0b_call4_c_0 : Ref sig .tc := ⟨.hbm, 82, rfl⟩
abbrev main_while0b_call4_c_1 : Ref sig .tc := ⟨.hbm, 83, rfl⟩
abbrev main_while0b_call4_v0 : Ref sig .tc := ⟨.hbm, 84, rfl⟩
abbrev main_while0b_v89 : Ref sig .tc := ⟨.hbm, 85, rfl⟩
abbrev main_while0b_call5_c : Ref sig .tc := ⟨.hbm, 86, rfl⟩
abbrev main_while0b_call5_c_0 : Ref sig .tc := ⟨.hbm, 87, rfl⟩
abbrev main_while0b_call5_v0 : Ref sig .tc := ⟨.hbm, 88, rfl⟩
abbrev main_while0b_v90 : Ref sig .tc := ⟨.hbm, 89, rfl⟩
abbrev main_while0b_v91 : Ref sig .tc := ⟨.hbm, 90, rfl⟩
abbrev main_while0b_v92 : Ref sig .tc := ⟨.hbm, 91, rfl⟩
abbrev main_while0b_v93 : Ref sig .tc := ⟨.hbm, 92, rfl⟩
abbrev main_while0b_call6_v0 : Ref sig .tc := ⟨.hbm, 93, rfl⟩
abbrev main_while0b_call6_c : Ref sig .tc := ⟨.hbm, 94, rfl⟩
abbrev main_while0b_call6_c_0 : Ref sig .tc := ⟨.hbm, 95, rfl⟩
abbrev main_while0b_v94 : Ref sig .tc := ⟨.hbm, 96, rfl⟩
abbrev main_while0b_c_11 : Ref sig .tc := ⟨.hbm, 97, rfl⟩
abbrev main_while0b_v95 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_cst_1 : Ref sig .tc := ⟨.hbm, 115, rfl⟩
abbrev main_v59 : Ref sig .tc := ⟨.hbm, 116, rfl⟩
abbrev main_v60 : Ref sig .tc := ⟨.hbm, 117, rfl⟩
abbrev main_call9_v0 : Ref sig .tc := ⟨.hbm, 118, rfl⟩
abbrev main_call9_v1 : Ref sig .tc := ⟨.hbm, 119, rfl⟩
abbrev main_call9_cst : Ref sig .tc := ⟨.hbm, 120, rfl⟩
abbrev main_call9_v2 : Ref sig .tc := ⟨.hbm, 121, rfl⟩
abbrev main_call9_v3 : Ref sig .tc := ⟨.hbm, 122, rfl⟩
abbrev main_call9_cst_0 : Ref sig .tc := ⟨.hbm, 123, rfl⟩
abbrev main_call9_v4 : Ref sig .tc := ⟨.hbm, 124, rfl⟩
abbrev main_call9_v5 : Ref sig .tc := ⟨.hbm, 125, rfl⟩
abbrev main_v61 : Ref sig .tc := ⟨.hbm, 126, rfl⟩
abbrev main_v62 : Ref sig .tc := ⟨.hbm, 127, rfl⟩
abbrev main_v63 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_v69 : Ref sig .tc := ⟨.hbm, 134, rfl⟩
abbrev main_cst_2 : Ref sig .tc := ⟨.hbm, 135, rfl⟩
abbrev main_v70 : Ref sig .tc := ⟨.hbm, 136, rfl⟩
abbrev main_v71 : Ref sig .tc := ⟨.hbm, 137, rfl⟩
abbrev main_cst_3 : Ref sig .tc := ⟨.hbm, 138, rfl⟩
abbrev main_v72 : Ref sig .tc := ⟨.hbm, 139, rfl⟩
abbrev main_v73 : Ref sig .tc := ⟨.hbm, 140, rfl⟩
abbrev main_c_4 : Ref sig .tc := ⟨.hbm, 141, rfl⟩
abbrev main_call10_cst : Ref sig .tc := ⟨.hbm, 142, rfl⟩
abbrev main_call10_v0 : Ref sig .tc := ⟨.hbm, 143, rfl⟩
abbrev main_call10_v1 : Ref sig .tc := ⟨.hbm, 144, rfl⟩
abbrev main_call10_cst_0 : Ref sig .tc := ⟨.hbm, 145, rfl⟩
abbrev main_call10_v2 : Ref sig .tc := ⟨.hbm, 146, rfl⟩
abbrev main_call10_v3 : Ref sig .tc := ⟨.hbm, 147, rfl⟩
abbrev main_call10_v4 : Ref sig .tc := ⟨.hbm, 148, rfl⟩
abbrev main_call10_v5 : Ref sig .tc := ⟨.hbm, 149, rfl⟩
abbrev main_call10_v6 : Ref sig .tc := ⟨.hbm, 150, rfl⟩
abbrev main_call10_v7 : Ref sig .tc := ⟨.hbm, 151, rfl⟩
abbrev main_call10_cst_1 : Ref sig .tc := ⟨.hbm, 152, rfl⟩
abbrev main_call10_v8 : Ref sig .tc := ⟨.hbm, 153, rfl⟩
abbrev main_call10_cst_2 : Ref sig .tc := ⟨.hbm, 154, rfl⟩
abbrev main_call10_v9 : Ref sig .tc := ⟨.hbm, 155, rfl⟩
abbrev main_call10_v10 : Ref sig .tc := ⟨.hbm, 156, rfl⟩
abbrev main_call10_v11 : Ref sig .tc := ⟨.hbm, 157, rfl⟩
abbrev main_call10_v12 : Ref sig .tc := ⟨.hbm, 158, rfl⟩
abbrev main_call10_cst_3 : Ref sig .tc := ⟨.hbm, 159, rfl⟩
abbrev main_call10_v13 : Ref sig .tc := ⟨.hbm, 160, rfl⟩
abbrev main_call10_cst_4 : Ref sig .tc := ⟨.hbm, 161, rfl⟩
abbrev main_call10_call0_v0 : Ref sig .tc := ⟨.hbm, 162, rfl⟩
abbrev main_call10_call0_v1 : Ref sig .tc := ⟨.hbm, 163, rfl⟩
abbrev main_v74 : Ref sig .tc := ⟨.hbm, 164, rfl⟩
abbrev main_v75 : Ref sig .tc := ⟨.hbm, 165, rfl⟩
abbrev main_v76 : Ref sig .tc := ⟨.hbm, 166, rfl⟩
abbrev main_cst_5 : Ref sig .tc := ⟨.hbm, 167, rfl⟩
abbrev main_v77 : Ref sig .tc := ⟨.hbm, 168, rfl⟩
abbrev main_v78 : Ref sig .tc := ⟨.hbm, 169, rfl⟩
abbrev main_v79 : Ref sig .tc := ⟨.hbm, 170, rfl⟩
abbrev main_v80 : Ref sig .tc := ⟨.hbm, 171, rfl⟩
abbrev main_v81 : Ref sig .tc := ⟨.hbm, 172, rfl⟩
abbrev main_v82 : Ref sig .tc := ⟨.hbm, 173, rfl⟩
abbrev main_v83 : Ref sig .tc := ⟨.hbm, 174, rfl⟩
abbrev main_v84 : Ref sig .tc := ⟨.hbm, 175, rfl⟩
abbrev main_v85 : Ref sig .tc := ⟨.hbm, 176, rfl⟩
abbrev main_v86 : Ref sig .tc := ⟨.hbm, 177, rfl⟩
abbrev main_v87 : Ref sig .tc := ⟨.hbm, 178, rfl⟩

abbrev nD : Nat := 1
abbrev τ : Topo := Topo.v7x

variable {F : FTy → Type} [FloatOps F]

abbrev main_while0_count : Scf.Loop 32 := ⟨0#32, 256#32, 1#32⟩
-- ==== Proof.Mem.lean ====
/-
  Loads and stores by values. `Held c m x` says that the memref `m` of core `c` holds the values `x`; the four rules here run a load or an unmasked
  store of a held memref at the head of a program, at a unit-stride rectangle or at the memref's own sizes.
-/
module

public import Idealize.ShloMosaic.Lib.VecWindow
public import Idealize.ShloMosaic.Lib.Tactic

@[expose] public section

noncomputable section

namespace Cert.Mem

open Idealize.ShloMosaic
open Idealize.SL Idealize.SL.RA Idealize.SL.BI
open Idealize.SL.BI (sProp)
open scoped Idealize.SL.BI
open Idealize.SL.BI.BIBase Idealize.SL.BI.Laws Idealize.SL.ProofMode Idealize.SL.Sem

variable {nD : Nat} {τ : Topo} {sig : RefSig} {Ix : Type} [DecidableEq Ix] {Val : EltTy → Type} {Name : Type} [DecidableEq Name]
variable {U : Type} [URA U] {Lvl : Type} {Λ : Labels}

local notation "𝕄" => MT nD τ sig Ix Val Name U Lvl

/-- The memref `m` of core `c` holds the values `x`. -/
def Held [∀ e, Nonempty (Val e)] (c : Thread nD τ) {cs : CoreSpace} {s : Shape} {e : EltTy} (m : Memref sig c.2.kind cs s e) (x : s.Idx → Val e) : sProp 𝕄 :=
  m.view.loc c ↦[m.view.set]{fullShare} m.view.rep x

variable [Preorder Lvl] [∀ e, Nonempty (Val e)] {defs : Defs nD τ sig Val Λ} (𝒱 : Variants) (c : Thread nD τ) (bd : Option 𝒱.V) (E : Set Name)
variable {cs : CoreSpace} {s : Shape} {e : EltTy} {α : Type} {Q : α → sProp (MT nD τ sig Ix Val Name U Lvl)}

/-- Contents that read `x` are the values `x`. -/
theorem held_of_read (m : Memref sig c.2.kind cs s e) (x : s.Idx → Val e) (f : Buf Val (m.view.loc c)) (h : m.view.read Val f = x) :
    (m.view.loc c ↦[m.view.set]{fullShare} f : sProp 𝕄) ⊢ Held c m x :=
  pointsTo_rep_of_read c m f fullShare x h

/-- A load at a unit-stride rectangle reads a window of the values held. -/
theorem load_window {m : Memref sig c.2.kind cs s e} {off size : Fin s.rank → ℕ} (inb : ∀ a, off a + size a ≤ s.size a)
    {hl : m.view.LoadsAt (Rect.unit off size inb).toLoadRect} {x : s.Idx → Val e}
    {k : ((Rect.unit off size inb).shape.Idx → Val e) → Prog (TpuEff nD τ sig Val Λ c.2) α} :
    (Held c m x : sProp 𝕄) ⊢ iprop((Held c m x -∗ wp frame (wpE defs 𝒱 c bd) E (k (VecWindow.window x off size inb)) Q)
      -∗ wp frame (wpE defs 𝒱 c bd) E (.op (.load m (Rect.unit off size inb).toLoadRect hl) k) Q) := by
  rw [← View.readAt_rep_unit m.view x inb rfl inb]
  exact wp_load 𝒱 c bd E (View.setOn_subset_set _ _)

/-- A load of the memref's own sizes reads the values held. -/
theorem load_full {m : Memref sig c.2.kind cs s e} {off : Fin s.rank → ℕ} (inb : ∀ a, off a + s.size a ≤ s.size a)
    {hl : m.view.LoadsAt (Rect.unit off s.size inb).toLoadRect} {x : s.Idx → Val e}
    {k : (s.Idx → Val e) → Prog (TpuEff nD τ sig Val Λ c.2) α} :
    (Held c m x : sProp 𝕄) ⊢ iprop((Held c m x -∗ wp frame (wpE defs 𝒱 c bd) E (k x) Q)
      -∗ wp frame (wpE defs 𝒱 c bd) E (.op (.load m (Rect.unit off s.size inb).toLoadRect hl) k) Q) := by
  have h := View.readAt_rep_full m.view x inb
  have := wp_load (Q := Q) (defs := defs) (m := m) (hl := hl) (k := k) (q := fullShare) (f := m.view.rep x) (S := m.view.set) (Ix := Ix) (Name := Name) (U := U) (Lvl := Lvl) (Γ := ∅)
    𝒱 c bd E (View.setOn_subset_set _ _)
  rw [h] at this
  exact this

/-- An unmasked store at a unit-stride rectangle puts the payload there. -/
theorem store_window {m : Memref sig c.2.kind cs s e} {off size : Fin s.rank → ℕ} (inb : ∀ a, off a + size a ≤ s.size a)
    {w : (Rect.unit off size inb).shape.Idx → Val e} {hx : (m.access (Rect.unit off size inb)).Stores Finset.univ}
    {hm : (Finset.univ : Finset (Rect.unit off size inb).shape.Idx) = Finset.univ ∨ ∀ a, (Rect.unit off size inb).stride a = 1} {x : s.Idx → Val e}
    {k : PUnit → Prog (TpuEff nD τ sig Val Λ c.2) α} :
    (Held c m x : sProp 𝕄) ⊢ iprop((Held c m (VecWindow.put x off size w) -∗ wp frame (wpE defs 𝒱 c bd) E (k ⟨⟩) Q)
      -∗ wp frame (wpE defs 𝒱 c bd) E (.op (.store m (Rect.unit off size inb) w Finset.univ hx hm) k) Q) := by
  refine (wp_store (hx := hx) (hm := hm) (k := k) (f := m.view.rep x) 𝒱 c bd E (Memref.setOn_access_subset m (Rect.unit off size inb) Finset.univ)).trans
    (wand_mono_left (wand_mono_left ?_))
  exact held_of_read c m _ _ (View.read_writes_rep_unit m.view x inb w rfl)

/-- An unmasked store of the memref's own sizes leaves the payload. -/
theorem store_full {m : Memref sig c.2.kind cs s e} {off : Fin s.rank → ℕ} (inb : ∀ a, off a + s.size a ≤ s.size a)
    {w : s.Idx → Val e} {hx : (m.access (Rect.unit off s.size inb)).Stores Finset.univ}
    {hm : (Finset.univ : Finset (Rect.unit off s.size inb).shape.Idx) = Finset.univ ∨ ∀ a, (Rect.unit off s.size inb).stride a = 1} {x : s.Idx → Val e}
    {k : PUnit → Prog (TpuEff nD τ sig Val Λ c.2) α} :
    (Held c m x : sProp 𝕄) ⊢ iprop((Held c m w -∗ wp frame (wpE defs 𝒱 c bd) E (k ⟨⟩) Q)
      -∗ wp frame (wpE defs 𝒱 c bd) E (.op (.store m (Rect.unit off s.size inb) w Finset.univ hx hm) k) Q) := by
  refine (wp_store (hx := hx) (hm := hm) (k := k) (f := m.view.rep x) 𝒱 c bd E (Memref.setOn_access_subset m (Rect.unit off s.size inb) Finset.univ)).trans
    (wand_mono_left (wand_mono_left ?_))
  exact held_of_read c m _ _ (View.read_writes_full m.view _ inb w [])

end Cert.Mem
-- ==== Proof.Scan.Step.lean ====
/-
  The scan loop's region as a fold of one step. The printed region is a window of many unrolled steps, each of four directions; here it is restated as
  thirty-two applications of `step`, a program of four `dirStep`s.
-/
module

public import proofs.«01_k».proof.Proof.Gen.KernelIdeal

@[expose] public section

noncomputable section

namespace Cert.KernelIdeal.Scan

open Idealize.ShloMosaic Idealize.SL.Sem
open Cert.KernelIdeal.Gen

variable {F : FTy → Type} [FloatOps F]

/-- A state of the recurrence: sixteen rows over 768 channels. -/
abbrev State (F : FTy → Type) := FVec F S16x768 .f32

/-- The state after one position, from the decay `a`, the input `b` and the state before it. -/
def advance (a b : Vec F S1x16x768 .f32) (h : State F) : State F :=
  addf (mulf (shapeCast S16x768 a shapeCasts_S1x16x768_S16x768) h) (shapeCast S16x768 b shapeCasts_S1x16x768_S16x768)

/-- The row one position contributes, from its readout weights `w` and the state. -/
def readout (w : Vec F S1x1x16 .f32) (h : State F) : FVec F S1x768 .f32 :=
  shapeCast S1x768 (matmul dot_S1x16_S16x768_S1x768_1_0_0_1_n_n none (shapeCast S1x16 w shapeCasts_S1x1x16_S1x16) h (constant S1x768 .f32 0x00000000#32)) shapeCasts_S1x768_S1x768

/-- One position of one direction, before the program `K`: load the decay, the input and the readout weights, advance the state, store the row. -/
def dirStep {α : Type} (mc : Memref sig .tc .vmem S256x1x16 .f32) (ma mb : Memref sig .tc .vmem S256x16x768 .f32) (my : Memref sig .tc .vmem S256x768 .f32)
    (oa : Fin 3 → Nat) (ia : ∀ a, oa a + S1x16x768.size a ≤ S256x16x768.size a) (oc : Fin 3 → Nat) (ic : ∀ a, oc a + S1x1x16.size a ≤ S256x1x16.size a)
    (oy : Fin 2 → Nat) (iy : ∀ a, oy a + S1x768.size a ≤ S256x768.size a) (h : State F) (K : State F → Prog (TpuEff nD τ sig (Elt F) Λ₀ .tc) α) : Prog (TpuEff nD τ sig (Elt F) Λ₀ .tc) α :=
  .op (.load ma (Rect.unit (s := S256x16x768) oa S1x16x768.size ia).toLoadRect (View.loadsAt_vmem h_S1x16x768)) fun a =>
  .op (.load mb (Rect.unit (s := S256x16x768) oa S1x16x768.size ia).toLoadRect (View.loadsAt_vmem h_S1x16x768)) fun b =>
  .op (.load mc (Rect.unit (s := S256x1x16) oc S1x1x16.size ic).toLoadRect (View.loadsAt_vmem h_S1x1x16)) fun w =>
  .op (.load my (Rect.unit (s := S256x768) oy S1x768.size iy).toLoadRect (View.loadsAt_vmem h_S1x768)) fun _ =>
  .op (.store my (Rect.unit (s := S256x768) oy S1x768.size iy) (readout w (advance a b h)) Finset.univ (View.stores_vmem_bits_univ h_S1x768 rfl) (.inl rfl)) fun _ =>
  K (advance a b h)

/-- Position `n` of trip `t` in the four directions, before the program `K`. -/
def step {α : Type} (mc : Memref sig .tc .vmem S256x1x16 .f32) (ma mb : Memref sig .tc .vmem S256x16x768 .f32) (y0 y1 y2 y3 : Memref sig .tc .vmem S256x768 .f32)
    (t : Fin k0_t3_loop.trips) (n : ℕ) (h : State F × State F × State F × State F) (K : State F × State F × State F × State F → Prog (TpuEff nD τ sig (Elt F) Λ₀ .tc) α) : Prog (TpuEff nD τ sig (Elt F) Λ₀ .tc) α :=
  dirStep mc ma mb y0 (k0_off5 t (BitVec.ofNat 32 (Fin.ofNat 128 n).val)) (k0_off5_inb t (Fin.ofNat 128 n)) (k0_off6 t (BitVec.ofNat 32 (Fin.ofNat 128 n).val)) (k0_off6_inb t (Fin.ofNat 128 n)) (k0_off7 t (BitVec.ofNat 32 (Fin.ofNat 128 n).val)) (k0_off7_inb t (Fin.ofNat 128 n)) h.1 fun h0 =>
  dirStep mc ma mb y1 (k0_off8 t (BitVec.ofNat 32 (Fin.ofNat 128 n).val)) (k0_off8_inb t (Fin.ofNat 128 n)) (k0_off9 t (BitVec.ofNat 32 (Fin.ofNat 128 n).val)) (k0_off9_inb t (Fin.ofNat 128 n)) (k0_off10 t (BitVec.ofNat 32 (Fin.ofNat 128 (127 - n)).val)) (k0_off10_inb t (Fin.ofNat 128 (127 - n))) h.2.1 fun h1 =>
  dirStep mc ma mb y2 (k0_off11 t (BitVec.ofNat 32 (Fin.ofNat 128 n).val)) (k0_off11_inb t (Fin.ofNat 128 n)) (k0_off12 t (BitVec.ofNat 32 (Fin.ofNat 128 n).val)) (k0_off12_inb t (Fin.ofNat 128 n)) (k0_off7 t (BitVec.ofNat 32 (Fin.ofNat 128 n).val)) (k0_off7_inb t (Fin.ofNat 128 n)) h.2.2.1 fun h2 =>
  dirStep mc ma mb y3 (k0_off13 t (BitVec.ofNat 32 (Fin.ofNat 128 n).val)) (k0_off13_inb t (Fin.ofNat 128 n)) (k0_off14 t (BitVec.ofNat 32 (Fin.ofNat 128 n).val)) (k0_off14_inb t (Fin.ofNat 128 n)) (k0_off10 t (BitVec.ofNat 32 (Fin.ofNat 128 (127 - n)).val)) (k0_off10_inb t (Fin.ofNat 128 (127 - n))) h.2.2.2 fun h3 =>
  K (h0, h1, h2, h3)

/-- The `k` positions from `n` of trip `t`, then the states. -/
def steps (mc : Memref sig .tc .vmem S256x1x16 .f32) (ma mb : Memref sig .tc .vmem S256x16x768 .f32) (y0 y1 y2 y3 : Memref sig .tc .vmem S256x768 .f32)
    (t : Fin k0_t3_loop.trips) : ℕ → ℕ → State F × State F × State F × State F → Prog (TpuEff nD τ sig (Elt F) Λ₀ .tc) (State F × State F × State F × State F)
  | 0, _, h => .ret h
  | k + 1, n, h => step mc ma mb y0 y1 y2 y3 t n h (steps mc ma mb y0 y1 y2 y3 t k (n + 1))

end Cert.KernelIdeal.Scan
-- ==== Proof.Scan.Pure.lean ====
/-
  What the scan computes, as functions of the arrays it reads: the states of one direction before each position (`states`), the row each position
  contributes (`yRow`), and the array of the contributions (`yArr`), with the partly written array between two positions (`upTo`).
-/
module

public import proofs.«01_k».proof.Proof.Scan.Step
public import Idealize.ShloMosaic.Lib.Pointwise.Index
public import Idealize.ShloMosaic.Lib.VecWindow

@[expose] public section

noncomputable section

namespace Cert.KernelIdeal.Scan

open Idealize.ShloMosaic Idealize.SL.Sem
open Cert.KernelIdeal.Gen

variable {F : FTy → Type} [FloatOps F]

/-- The position whose image is read in column-major order of a sixteen by sixteen grid. -/
def tr (i : Fin 256) : Fin 256 := ⟨i.val % 16 * 16 + i.val / 16, by omega⟩

/-- Row `i` of a table of decays or inputs. -/
def rowA (A : Vec F S256x16x768 .f32) (i : Fin 256) : Vec F S1x16x768 .f32 := fun y => A (ix3 i (y 1) (y 2))

/-- Row `i` of the table of readout weights. -/
def rowC (C : Vec F S256x1x16 .f32) (i : Fin 256) : Vec F S1x1x16 .f32 := fun y => C (ix3 i (y 1) (y 2))

/-- The state before the first position. -/
def init : State F := broadcast S16x768 (Scalar.ofBits .f32 0x00000000#32)

/-- The state of a direction that visits row `r p` at position `p`, before position `p`. -/
def states (A B : Vec F S256x16x768 .f32) (r : ℕ → Fin 256) : ℕ → State F
  | 0 => init
  | p + 1 => advance (rowA A (r p)) (rowA B (r p)) (states A B r p)

/-- The row position `p` contributes. -/
def yRow (C : Vec F S256x1x16 .f32) (A B : Vec F S256x16x768 .f32) (r : ℕ → Fin 256) (p : ℕ) : FVec F S1x768 .f32 :=
  readout (rowC C (r p)) (states A B r (p + 1))

/-- The array of contributions, row `i` being that of position `pos i`. -/
def yArr (C : Vec F S256x1x16 .f32) (A B : Vec F S256x16x768 .f32) (r : ℕ → Fin 256) (pos : Fin 256 → ℕ) : Vec F S256x768 .f32 :=
  fun j => yRow C A B r (pos (j 0)) (ix2 0 (j 1))

/-- The array `Z` where the row's position is before `k`, and `Y` elsewhere. -/
def upTo (Y Z : Vec F S256x768 .f32) (pos : Fin 256 → ℕ) (k : ℕ) : Vec F S256x768 .f32 :=
  fun j => if pos (j 0) < k then Z j else Y j

/-- The array `Y` with `v` as its row `o`. -/
def setRow (Y : Vec F S256x768 .f32) (o : Fin 256) (v : FVec F S1x768 .f32) : Vec F S256x768 .f32 :=
  fun j => if (j 0).val = o.val then v (ix2 0 (j 1)) else Y j

/-- The four orders of visiting: forwards, backwards, and both over the transposed grid. -/
def rFwd (p : ℕ) : Fin 256 := Fin.ofNat 256 p
@[inherit_doc rFwd] def rBwd (p : ℕ) : Fin 256 := Fin.ofNat 256 (255 - p)
@[inherit_doc rFwd] def rFwdT (p : ℕ) : Fin 256 := tr (rFwd p)
@[inherit_doc rFwd] def rBwdT (p : ℕ) : Fin 256 := tr (rBwd p)

/-- The position at which row `i` is written, forwards and backwards. -/
def posFwd (i : Fin 256) : ℕ := i.val
@[inherit_doc posFwd] def posBwd (i : Fin 256) : ℕ := 255 - i.val

theorem posFwd_eq (i : Fin 256) {p : ℕ} (hp : p < 256) : posFwd i = p ↔ i = rFwd p := by
  simp only [posFwd, rFwd, Fin.ext_iff, Fin.val_ofNat]; omega

theorem posBwd_eq (i : Fin 256) {p : ℕ} (hp : p < 256) : posBwd i = p ↔ i = rBwd p := by
  simp only [posBwd, rBwd, Fin.ext_iff, Fin.val_ofNat]; omega

theorem posFwd_lt (i : Fin 256) : posFwd i < 256 := i.isLt

theorem posBwd_lt (i : Fin 256) : posBwd i < 256 := by simp only [posBwd]; omega

theorem upTo_zero (Y Z : Vec F S256x768 .f32) (pos : Fin 256 → ℕ) : upTo Y Z pos 0 = Y := by
  funext j; simp [upTo]

theorem upTo_all (Y Z : Vec F S256x768 .f32) (pos : Fin 256 → ℕ) (h : ∀ i, pos i < 256) : upTo Y Z pos 256 = Z := by
  funext j; exact if_pos (h _)

/-- Writing the row of position `p` goes from the array up to `p` to the array up to `p + 1`. -/
theorem setRow_upTo (Y Z : Vec F S256x768 .f32) (pos : Fin 256 → ℕ) (p : ℕ) (o : Fin 256) (v : FVec F S1x768 .f32)
    (ho : ∀ i, pos i = p ↔ i = o) (hv : ∀ j : S256x768.Idx, j 0 = o → v (ix2 0 (j 1)) = Z j) :
    setRow (upTo Y Z pos p) o v = upTo Y Z pos (p + 1) := by
  funext j
  have := ho (j 0)
  by_cases h : (j 0).val = o.val
  · have h1 : pos (j 0) < p + 1 := by have := this.2 (Fin.ext h); omega
    simp only [setRow, upTo, if_pos h, if_pos h1]; exact hv j (Fin.ext h)
  · have h1 : (pos (j 0) < p + 1) = (pos (j 0) < p) := by
      have : pos (j 0) ≠ p := fun e => h (congrArg Fin.val (this.1 e))
      exact propext ⟨fun _ => by omega, fun _ => by omega⟩
    simp only [setRow, upTo, if_neg h, h1]

/-- A window of one row of a table is that row. -/
theorem window_rowA (A : Vec F S256x16x768 .f32) (off : Fin 3 → ℕ) (i : Fin 256) (h : off = ![i.val, 0, 0]) (inb : ∀ a, off a + S1x16x768.size a ≤ S256x16x768.size a) :
    VecWindow.window (s := S256x16x768) A off S1x16x768.size inb = rowA A i := by
  subst h
  funext y
  refine congrArg A (funext fun a => Fin.ext ?_)
  fin_cases a
  · have h0 : (y 0).val < 1 := (y 0).isLt
    show i.val + 1 * (y 0).val = i.val
    omega
  · show 0 + 1 * (y 1).val = (y 1).val
    omega
  · show 0 + 1 * (y 2).val = (y 2).val
    omega

@[inherit_doc window_rowA]
theorem window_rowC (C : Vec F S256x1x16 .f32) (off : Fin 3 → ℕ) (i : Fin 256) (h : off = ![i.val, 0, 0]) (inb : ∀ a, off a + S1x1x16.size a ≤ S256x1x16.size a) :
    VecWindow.window (s := S256x1x16) C off S1x1x16.size inb = rowC C i := by
  subst h
  funext y
  refine congrArg C (funext fun a => Fin.ext ?_)
  fin_cases a
  · have h0 : (y 0).val < 1 := (y 0).isLt
    show i.val + 1 * (y 0).val = i.val
    omega
  · show 0 + 1 * (y 1).val = (y 1).val
    omega
  · show 0 + 1 * (y 2).val = (y 2).val
    omega

/-- Putting one row is `setRow`. -/
theorem put_setRow (Y : Vec F S256x768 .f32) (off : Fin 2 → ℕ) (o : Fin 256) (h : off = ![o.val, 0]) (v : FVec F S1x768 .f32) :
    VecWindow.put (s := S256x768) Y off S1x768.size v = setRow Y o v := by
  subst h
  funext j
  have h1 : (j 1).val < 768 := (j 1).isLt
  by_cases hj : (j 0).val = o.val
  · have hin : ∀ a, (![o.val, 0] : Fin 2 → ℕ) a ≤ (j a).val ∧ (j a).val < (![o.val, 0] : Fin 2 → ℕ) a + S1x768.size a := by
      intro a; fin_cases a
      · show o.val ≤ (j 0).val ∧ (j 0).val < o.val + 1
        omega
      · show 0 ≤ (j 1).val ∧ (j 1).val < 0 + 768
        omega
    unfold VecWindow.put
    rw [dif_pos hin]
    simp only [setRow, if_pos hj]
    refine congrArg v (funext fun a => Fin.ext ?_)
    fin_cases a
    · show (j 0).val - o.val = 0
      omega
    · show (j 1).val - 0 = (j 1).val
      omega
  · have hout : ¬ ∀ a, (![o.val, 0] : Fin 2 → ℕ) a ≤ (j a).val ∧ (j a).val < (![o.val, 0] : Fin 2 → ℕ) a + S1x768.size a := by
      intro hin
      have h0 : o.val ≤ (j 0).val ∧ (j 0).val < o.val + 1 := hin 0
      exact hj (by omega)
    unfold VecWindow.put
    rw [dif_neg hout]
    simp only [setRow, if_neg hj]

/-! The offsets the unrolled region computes, by position. -/

theorem off5_eq : ∀ (t : Fin k0_t3_loop.trips) (n : Fin 128), k0_off5 t (BitVec.ofNat 32 n.val) = ![(rFwd (128 * t.val + n.val)).val, 0, 0] := by decide +kernel
theorem off6_eq : ∀ (t : Fin k0_t3_loop.trips) (n : Fin 128), k0_off6 t (BitVec.ofNat 32 n.val) = ![(rFwd (128 * t.val + n.val)).val, 0, 0] := by decide +kernel
theorem off7_eq : ∀ (t : Fin k0_t3_loop.trips) (n : Fin 128), k0_off7 t (BitVec.ofNat 32 n.val) = ![(rFwd (128 * t.val + n.val)).val, 0] := by decide +kernel
theorem off8_eq : ∀ (t : Fin k0_t3_loop.trips) (n : Fin 128), k0_off8 t (BitVec.ofNat 32 n.val) = ![(rBwd (128 * t.val + n.val)).val, 0, 0] := by decide +kernel
theorem off9_eq : ∀ (t : Fin k0_t3_loop.trips) (n : Fin 128), k0_off9 t (BitVec.ofNat 32 n.val) = ![(rBwd (128 * t.val + n.val)).val, 0, 0] := by decide +kernel
theorem off10_eq : ∀ (t : Fin k0_t3_loop.trips) (n : Fin 128), k0_off10 t (BitVec.ofNat 32 (Fin.ofNat 128 (127 - n.val)).val) = ![(rBwd (128 * t.val + n.val)).val, 0] := by decide +kernel
theorem off11_eq : ∀ (t : Fin k0_t3_loop.trips) (n : Fin 128), k0_off11 t (BitVec.ofNat 32 n.val) = ![(rFwdT (128 * t.val + n.val)).val, 0, 0] := by decide +kernel
theorem off12_eq : ∀ (t : Fin k0_t3_loop.trips) (n : Fin 128), k0_off12 t (BitVec.ofNat 32 n.val) = ![(rFwdT (128 * t.val + n.val)).val, 0, 0] := by decide +kernel
theorem off13_eq : ∀ (t : Fin k0_t3_loop.trips) (n : Fin 128), k0_off13 t (BitVec.ofNat 32 n.val) = ![(rBwdT (128 * t.val + n.val)).val, 0, 0] := by decide +kernel
theorem off14_eq : ∀ (t : Fin k0_t3_loop.trips) (n : Fin 128), k0_off14 t (BitVec.ofNat 32 n.val) = ![(rBwdT (128 * t.val + n.val)).val, 0, 0] := by decide +kernel

end Cert.KernelIdeal.Scan
-- ==== Proof.Scan.Run.lean ====
/-
  The scan loop's run: one position of one direction, one position of all four, a trip's positions, and the loop's invariant. Before position `p` the
  states are `states … p` and each array of contributions is written up to `p`.
-/
module

public import proofs.«01_k».proof.Proof.Mem
public import proofs.«01_k».proof.Proof.Scan.Pure

@[expose] public section

noncomputable section

namespace Cert.KernelIdeal.Scan

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen Cert.Mem

variable {F : FTy → Type} [FloatOps F]

local notation "𝕄G" => MT nD τ sig Unit (Elt F) ℕ (UR sig nD τ) ℕ

variable (𝒱 : Variants) (c : Dev nD) (bd : Option 𝒱.V) (E : Set ℕ)

/-- One position of one direction, at row `i` of the tables and row `o` of the contributions. -/
theorem dirStep_wp {α : Type} (mc : Memref sig .tc .vmem S256x1x16 .f32) (ma mb : Memref sig .tc .vmem S256x16x768 .f32) (my : Memref sig .tc .vmem S256x768 .f32)
    {oa : Fin 3 → Nat} {ia : ∀ a, oa a + S1x16x768.size a ≤ S256x16x768.size a} {oc : Fin 3 → Nat} {ic : ∀ a, oc a + S1x1x16.size a ≤ S256x1x16.size a}
    {oy : Fin 2 → Nat} {iy : ∀ a, oy a + S1x768.size a ≤ S256x768.size a} {h : State F} {K : State F → Prog (TpuEff nD τ sig (Elt F) Λ₀ .tc) α} {Q : α → sProp 𝕄G}
    (C : Vec F S256x1x16 .f32) (A B : Vec F S256x16x768 .f32) (Y : Vec F S256x768 .f32) (i o : Fin 256)
    (hoa : oa = ![i.val, 0, 0]) (hoc : oc = ![i.val, 0, 0]) (hoy : oy = ![o.val, 0]) :
    iprop(Held (c : Thread nD τ) mc C ∗ Held (c : Thread nD τ) ma A ∗ Held (c : Thread nD τ) mb B ∗ Held (c : Thread nD τ) my Y)
      ⊢ iprop(((Held (c : Thread nD τ) mc C ∗ Held (c : Thread nD τ) ma A ∗ Held (c : Thread nD τ) mb B
            ∗ Held (c : Thread nD τ) my (setRow Y o (readout (rowC C i) (advance (rowA A i) (rowA B i) h))))
          -∗ wp frame (wpE (defs₀ (F := F)) 𝒱 (c : Thread nD τ) bd) E (K (advance (rowA A i) (rowA B i) h)) Q)
        -∗ wp frame (wpE (defs₀ (F := F)) 𝒱 (c : Thread nD τ) bd) E (dirStep mc ma mb my oa ia oc ic oy iy h K) Q) := by
  unfold dirStep
  iintro ⟨HC, HA, HB, HY⟩ HK
  iapply (load_window (m := ma) (x := A) 𝒱 (c : Thread nD τ) bd E ia) $$ HA
  iintro HA
  iapply (load_window (m := mb) (x := B) 𝒱 (c : Thread nD τ) bd E ia) $$ HB
  iintro HB
  iapply (load_window (m := mc) (x := C) 𝒱 (c : Thread nD τ) bd E ic) $$ HC
  iintro HC
  iapply (load_window (m := my) (x := Y) 𝒱 (c : Thread nD τ) bd E iy) $$ HY
  iintro HY
  iapply (store_window (m := my) (x := Y) 𝒱 (c : Thread nD τ) bd E iy) $$ HY
  rw [window_rowA A oa i hoa ia, window_rowA B oa i hoa ia, window_rowC C oc i hoc ic, put_setRow Y oy o hoy]
  iintro HY
  iapply HK
  isplitl [HC]; · iexact HC
  isplitl [HA]; · iexact HA
  isplitl [HB]; · iexact HB
  iexact HY

/-- What the scan holds before position `p`: the tables, and each direction's contributions written up to `p` over what was there. -/
def Inv (mc : Memref sig .tc .vmem S256x1x16 .f32) (ma mb : Memref sig .tc .vmem S256x16x768 .f32) (y0 y1 y2 y3 : Memref sig .tc .vmem S256x768 .f32)
    (C : Vec F S256x1x16 .f32) (A B : Vec F S256x16x768 .f32) (Y0 Y1 Y2 Y3 : Vec F S256x768 .f32) (p : ℕ) : sProp 𝕄G :=
  iprop(Held (c : Thread nD τ) mc C ∗ Held (c : Thread nD τ) ma A ∗ Held (c : Thread nD τ) mb B
    ∗ Held (c : Thread nD τ) y0 (upTo Y0 (yArr C A B rFwd posFwd) posFwd p) ∗ Held (c : Thread nD τ) y1 (upTo Y1 (yArr C A B rBwd posBwd) posBwd p)
    ∗ Held (c : Thread nD τ) y2 (upTo Y2 (yArr C A B rFwdT posFwd) posFwd p) ∗ Held (c : Thread nD τ) y3 (upTo Y3 (yArr C A B rBwdT posBwd) posBwd p))

/-- The four states before position `p`. -/
def states4 (A B : Vec F S256x16x768 .f32) (p : ℕ) : State F × State F × State F × State F :=
  (states A B rFwd p, states A B rBwd p, states A B rFwdT p, states A B rBwdT p)

/-- Writing the row that position `p` contributes to a direction's array. -/
theorem setRow_yArr (C : Vec F S256x1x16 .f32) (A B : Vec F S256x16x768 .f32) (Y : Vec F S256x768 .f32) (r : ℕ → Fin 256) (pos : Fin 256 → ℕ) (p : ℕ) (o : Fin 256)
    (ho : ∀ i, pos i = p ↔ i = o) :
    setRow (upTo Y (yArr C A B r pos) pos p) o (readout (rowC C (r p)) (advance (rowA A (r p)) (rowA B (r p)) (states A B r p)))
      = upTo Y (yArr C A B r pos) pos (p + 1) :=
  setRow_upTo Y _ pos p o _ ho fun j hj => by
    have := (ho (j 0)).2 hj
    simp only [yArr, this]; rfl

variable (mc : Memref sig .tc .vmem S256x1x16 .f32) (ma mb : Memref sig .tc .vmem S256x16x768 .f32) (y0 y1 y2 y3 : Memref sig .tc .vmem S256x768 .f32)
  (C : Vec F S256x1x16 .f32) (A B : Vec F S256x16x768 .f32) (Y0 Y1 Y2 Y3 : Vec F S256x768 .f32)

/-- One position of the four directions. -/
theorem step_wp {α : Type} (t : Fin k0_t3_loop.trips) (n : ℕ) (hn : n < 128)
    {K : State F × State F × State F × State F → Prog (TpuEff nD τ sig (Elt F) Λ₀ .tc) α} {Q : α → sProp 𝕄G} :
    Inv c mc ma mb y0 y1 y2 y3 C A B Y0 Y1 Y2 Y3 (128 * t.val + n)
      ⊢ iprop((Inv c mc ma mb y0 y1 y2 y3 C A B Y0 Y1 Y2 Y3 (128 * t.val + n + 1)
          -∗ wp frame (wpE (defs₀ (F := F)) 𝒱 (c : Thread nD τ) bd) E (K (states4 A B (128 * t.val + n + 1))) Q)
        -∗ wp frame (wpE (defs₀ (F := F)) 𝒱 (c : Thread nD τ) bd) E (step mc ma mb y0 y1 y2 y3 t n (states4 A B (128 * t.val + n)) K) Q) := by
  have ht : t.val < 2 := t.isLt
  have hf : (Fin.ofNat 128 n : Fin 128).val = n := Nat.mod_eq_of_lt hn
  have hp : 128 * t.val + n < 256 := by omega
  unfold step Inv states4
  iintro ⟨HC, HA, HB, H0, H1, H2, H3⟩ HK
  iapply (dirStep_wp 𝒱 c bd E mc ma mb y0 C A B _ (rFwd (128 * t.val + n)) (rFwd (128 * t.val + n)) (by rw [off5_eq, hf]) (by rw [off6_eq, hf]) (by rw [off7_eq, hf])) $$ [HC HA HB H0]
  · isplitl [HC]; · iexact HC
    isplitl [HA]; · iexact HA
    isplitl [HB]; · iexact HB
    iexact H0
  rw [setRow_yArr C A B Y0 rFwd posFwd _ _ (fun i => posFwd_eq i hp)]
  iintro ⟨HC, HA, HB, H0⟩
  iapply (dirStep_wp 𝒱 c bd E mc ma mb y1 C A B _ (rBwd (128 * t.val + n)) (rBwd (128 * t.val + n)) (by rw [off8_eq, hf]) (by rw [off9_eq, hf])
    (by have := off10_eq t (Fin.ofNat 128 n); rwa [hf] at this)) $$ [HC HA HB H1]
  · isplitl [HC]; · iexact HC
    isplitl [HA]; · iexact HA
    isplitl [HB]; · iexact HB
    iexact H1
  rw [setRow_yArr C A B Y1 rBwd posBwd _ _ (fun i => posBwd_eq i hp)]
  iintro ⟨HC, HA, HB, H1⟩
  iapply (dirStep_wp 𝒱 c bd E mc ma mb y2 C A B _ (rFwdT (128 * t.val + n)) (rFwd (128 * t.val + n)) (by rw [off11_eq, hf]) (by rw [off12_eq, hf]) (by rw [off7_eq, hf])) $$ [HC HA HB H2]
  · isplitl [HC]; · iexact HC
    isplitl [HA]; · iexact HA
    isplitl [HB]; · iexact HB
    iexact H2
  rw [setRow_yArr C A B Y2 rFwdT posFwd _ _ (fun i => posFwd_eq i hp)]
  iintro ⟨HC, HA, HB, H2⟩
  iapply (dirStep_wp 𝒱 c bd E mc ma mb y3 C A B _ (rBwdT (128 * t.val + n)) (rBwd (128 * t.val + n)) (by rw [off13_eq, hf]) (by rw [off14_eq, hf])
    (by have := off10_eq t (Fin.ofNat 128 n); rwa [hf] at this)) $$ [HC HA HB H3]
  · isplitl [HC]; · iexact HC
    isplitl [HA]; · iexact HA
    isplitl [HB]; · iexact HB
    iexact H3
  rw [setRow_yArr C A B Y3 rBwdT posBwd _ _ (fun i => posBwd_eq i hp)]
  iintro ⟨HC, HA, HB, H3⟩
  iapply HK
  isplitl [HC]; · iexact HC
  isplitl [HA]; · iexact HA
  isplitl [HB]; · iexact HB
  isplitl [H0]; · iexact H0
  isplitl [H1]; · iexact H1
  isplitl [H2]; · iexact H2
  iexact H3

/-- The `k` positions from `n` of trip `t`. -/
theorem steps_wp (t : Fin k0_t3_loop.trips) : ∀ (k n : ℕ), n + k = 128 →
    Inv c mc ma mb y0 y1 y2 y3 C A B Y0 Y1 Y2 Y3 (128 * t.val + n)
      ⊢ wp frame (wpE (defs₀ (F := F)) 𝒱 (c : Thread nD τ) bd) E (steps mc ma mb y0 y1 y2 y3 t k n (states4 A B (128 * t.val + n)))
          (fun h => iprop(Inv c mc ma mb y0 y1 y2 y3 C A B Y0 Y1 Y2 Y3 (128 * (t.val + 1)) ∗ ⌜h = states4 A B (128 * (t.val + 1))⌝))
  | 0, n, h => by
    have e : 128 * (t.val + 1) = 128 * t.val + n := by omega
    unfold steps
    rw [wp_ret, e]
    iintro H
    imodintro
    isplitl [H]; · iexact H
    ipureintro; rfl
  | k + 1, n, h => by
    unfold steps
    iintro H
    iapply (step_wp 𝒱 c bd E mc ma mb y0 y1 y2 y3 C A B Y0 Y1 Y2 Y3 t n (by omega)) $$ H
    iintro H
    iapply (steps_wp t k (n + 1) (by omega))
    iexact H

end Cert.KernelIdeal.Scan
-- ==== Proof.Batch.Prog.lean ====
/-
  The kernel's program by its memory operations. Each value it stores is a named function of the values it loads, and the printed functions are equal to
  the programs here by unfolding.
-/
module

public import proofs.«01_k».proof.Proof.Scan.Pure

@[expose] public section

noncomputable section

namespace Cert.KernelIdeal.Scan

open Idealize.ShloMosaic Idealize.SL.Sem
open Cert.KernelIdeal.Gen

variable {F : FTy → Type} [FloatOps F]

/-- The kernel's buffers: thirteen inputs, the output and thirteen scratch arrays. -/
structure Bufs where
  a0 : Memref sig .tc .vmem S8x256x384 .f32
  a1 : Memref sig .tc .vmem S384x768 .f32
  a2 : Memref sig .tc .vmem S384x768 .f32
  a3 : Memref sig .tc .vmem S768x24 .f32
  a4 : Memref sig .tc .vmem S768x16 .f32
  a5 : Memref sig .tc .vmem S768x16 .f32
  a6 : Memref sig .tc .vmem S24x768 .f32
  a7 : Memref sig .tc .vmem S1x768 .f32
  a8 : Memref sig .tc .vmem S16x768 .f32
  a9 : Memref sig .tc .vmem S1x768 .f32
  a10 : Memref sig .tc .vmem S768x384 .f32
  a11 : Memref sig .tc .vmem S1x384 .f32
  a12 : Memref sig .tc .vmem S1x384 .f32
  a13 : Memref sig .tc .vmem S8x256x384 .f32
  a14 : Memref sig .tc .vmem S256x768 .f32
  a15 : Memref sig .tc .vmem S256x768 .f32
  a16 : Memref sig .tc .vmem S256x768 .f32
  a17 : Memref sig .tc .vmem S256x16 .f32
  a18 : Memref sig .tc .vmem S256x16 .f32
  a19 : Memref sig .tc .vmem S256x1x16 .f32
  a20 : Memref sig .tc .vmem S16x768 .f32
  a21 : Memref sig .tc .vmem S256x16x768 .f32
  a22 : Memref sig .tc .vmem S256x16x768 .f32
  a23 : Memref sig .tc .vmem S256x768 .f32
  a24 : Memref sig .tc .vmem S256x768 .f32
  a25 : Memref sig .tc .vmem S256x768 .f32
  a26 : Memref sig .tc .vmem S256x768 .f32

/-! ### The values -/

/-- A sequence of a batch, without its leading unit axis. -/
def seqOf (x : Vec F S1x256x384 .f32) : FVec F S256x384 .f32 := shapeCast S256x384 x shapeCasts_S1x256x384_S256x384

/-- A sequence projected to the inner width. -/
def proj (x : FVec F S256x384 .f32) (w : Vec F S384x768 .f32) : FVec F S256x768 .f32 :=
  matmul dot_S256x384_S384x768_S256x768_1_0_0_1_n_n none x (shapeCast S384x768 w shapeCasts_S384x768_S384x768) (constant S256x768 .f32 0x00000000#32)

/-- The low-rank step sizes. -/
def dtLow (xi : FVec F S256x768 .f32) (w : Vec F S768x24 .f32) : FVec F S256x24 .f32 :=
  matmul dot_S256x768_S768x24_S256x24_1_0_0_1_n_n none xi (shapeCast S768x24 w shapeCasts_S768x24_S768x24) (constant S256x24 .f32 0x00000000#32)

/-- A projection to the state width. -/
def toState (xi : FVec F S256x768 .f32) (w : Vec F S768x16 .f32) : FVec F S256x16 .f32 :=
  matmul dot_S256x768_S768x16_S256x16_1_0_0_1_n_n none xi (shapeCast S768x16 w shapeCasts_S768x16_S768x16) (constant S256x16 .f32 0x00000000#32)

/-- The readout weights with a unit middle axis. -/
def readoutOf (c : Vec F S256x16 .f32) : FVec F S256x1x16 .f32 :=
  shapeCast S256x1x16 (shapeCast S256x1x16 c shapeCasts_S256x16_S256x1x16) shapeCasts_S256x1x16_S256x1x16

/-- The step sizes before the softplus. -/
def dtOf (d : FVec F S256x24 .f32) (w : Vec F S24x768 .f32) (b : Vec F S1x768 .f32) : FVec F S256x768 .f32 :=
  addf (matmul dot_S256x24_S24x768_S256x768_1_0_0_1_n_n none d (shapeCast S24x768 w shapeCasts_S24x768_S24x768) (constant S256x768 .f32 0x00000000#32))
    (broadcastTo S256x768 (shapeCast S1x768 b shapeCasts_S1x768_S1x768) broadcasts_S1x768_S256x768)

/-- The matrix of decay rates: minus the exponential. -/
def negExp (a : Vec F S16x768 .f32) : FVec F S16x768 .f32 :=
  subf (broadcast S16x768 (Scalar.ofBits .f32 0x00000000#32)) (exp (shapeCast S16x768 a shapeCasts_S16x768_S16x768))

/-- The softplus of sixteen rows. -/
def softplus (v : Vec F S16x768 .f32) : FVec F S16x768 .f32 :=
  addf (maximumf v (broadcast S16x768 (Scalar.ofBits .f32 0x00000000#32)))
    (log1p (exp (subf (broadcast S16x768 (Scalar.ofBits .f32 0x00000000#32)) (absf v))))

/-- Sixteen rows of the decays, from the step sizes and the rates. -/
def decay (v a : Vec F S16x768 .f32) : FVec F S16x16x768 .f32 :=
  shapeCast S16x16x768 (exp (mulf (broadcastTo S16x16x768 (shapeCast S16x1x768 (softplus v) shapeCasts_S16x768_S16x1x768) broadcasts_S16x1x768_S16x16x768)
    (broadcastTo S16x16x768 (shapeCast S1x16x768 a shapeCasts_S16x768_S1x16x768) broadcasts_S1x16x768_S16x16x768))) shapeCasts_S16x16x768_S16x16x768

/-- Sixteen rows of the inputs, from the step sizes, the projected sequence and the input weights. -/
def drive (v x : Vec F S16x768 .f32) (b : Vec F S16x16 .f32) : FVec F S16x16x768 .f32 :=
  shapeCast S16x16x768 (mulf (broadcastTo S16x16x768 (shapeCast S16x1x768 (mulf (softplus v) x) shapeCasts_S16x768_S16x1x768) broadcasts_S16x1x768_S16x16x768)
    (broadcastTo S16x16x768 (shapeCast S16x16x1 b shapeCasts_S16x16_S16x16x1) broadcasts_S16x16x1_S16x16x768)) shapeCasts_S16x16x768_S16x16x768

/-- An array of contributions read back from the transposed grid. -/
def untr (y : Vec F S256x768 .f32) : FVec F S256x768 .f32 :=
  shapeCast S256x768 (transpose S16x16x768 [1, 0, 2] (shapeCast S16x16x768 y shapeCasts_S256x768_S16x16x768) transposes_S16x16x768_p1_0_2_S16x16x768) shapeCasts_S16x16x768_S256x768

/-- The gated mean of the four directions with the skip term. -/
def gated (y0 y1 y2 y3 z xi : FVec F S256x768 .f32) (d : Vec F S1x768 .f32) : FVec F S256x768 .f32 :=
  addf (mulf (mulf (addf (addf (addf y0 y1) y2) y3) (broadcast S256x768 (Scalar.ofBits .f32 0x3E800000#32)))
      (mulf z (divf (broadcast S256x768 (Scalar.ofBits .f32 0x3F800000#32))
        (addf (broadcast S256x768 (Scalar.ofBits .f32 0x3F800000#32)) (exp (subf (broadcast S256x768 (Scalar.ofBits .f32 0x00000000#32)) z))))))
    (mulf xi (broadcastTo S256x768 (shapeCast S1x768 d shapeCasts_S1x768_S1x768) broadcasts_S1x768_S256x768))

/-- The output projection with the residual. -/
def outProj (g : FVec F S256x768 .f32) (w : Vec F S768x384 .f32) (x : FVec F S256x384 .f32) : FVec F S256x384 .f32 :=
  addf (matmul dot_S256x768_S768x384_S256x384_1_0_0_1_n_n none g (shapeCast S768x384 w shapeCasts_S768x384_S768x384) (constant S256x384 .f32 0x00000000#32)) x

/-- The mean of each row. -/
def rowMean (r : FVec F S256x384 .f32) : FVec F S256x1 .f32 :=
  divf (shapeCast S256x1 (multiReduction .add [1] S256 r 0x00000000#32 reduces_S256x384_S256 (.inl rfl) rfl) shapeCasts_S256_S256x1)
    (broadcast S256x1 (Scalar.ofBits .f32 0x43C00000#32))

/-- Each row less its mean. -/
def centred (r : FVec F S256x384 .f32) : FVec F S256x384 .f32 := subf r (broadcastTo S256x384 (rowMean r) broadcasts_S256x1_S256x384)

/-- Each row normalised to unit variance. -/
def normed (r : FVec F S256x384 .f32) : FVec F S256x384 .f32 :=
  mulf (centred r) (broadcastTo S256x384 (rsqrt (addf (rowMean (mulf (centred r) (centred r))) (broadcast S256x1 (Scalar.ofBits .f32 0x3727C5AC#32)))) broadcasts_S256x1_S256x384)

/-- The normalised rows scaled and shifted, with a leading unit axis. -/
def scaled (n : FVec F S256x384 .f32) (g b : Vec F S1x384 .f32) : FVec F S1x256x384 .f32 :=
  shapeCast S1x256x384 (addf (mulf n (broadcastTo S256x384 (shapeCast S1x384 g shapeCasts_S1x384_S1x384) broadcasts_S1x384_S256x384))
    (broadcastTo S256x384 (shapeCast S1x384 b shapeCasts_S1x384_S1x384) broadcasts_S1x384_S256x384)) shapeCasts_S256x384_S1x256x384

/-! ### The programs -/

/-- A load of a window, before `K`. -/
def loadAt {α : Type} {s : Shape} (m : Memref sig .tc .vmem s .f32) (off size : Fin s.rank → Nat) (inb : ∀ a, off a + size a ≤ s.size a)
    (hn : 0 < (Rect.unit off size inb).shape.numel) (K : ((Rect.unit off size inb).shape.Idx → Elt F .f32) → Prog (TpuEff nD τ sig (Elt F) Λ₀ .tc) α) : Prog (TpuEff nD τ sig (Elt F) Λ₀ .tc) α :=
  .op (.load m (Rect.unit off size inb).toLoadRect (View.loadsAt_vmem hn)) K

/-- An unmasked store to a window, before `K`. -/
def storeAt {α : Type} {s : Shape} (m : Memref sig .tc .vmem s .f32) (off size : Fin s.rank → Nat) (inb : ∀ a, off a + size a ≤ s.size a)
    (hn : 0 < (Rect.unit off size inb).shape.numel) (w : (Rect.unit off size inb).shape.Idx → Elt F .f32) (K : PUnit → Prog (TpuEff nD τ sig (Elt F) Λ₀ .tc) α) : Prog (TpuEff nD τ sig (Elt F) Λ₀ .tc) α :=
  .op (.store m (Rect.unit off size inb) w Finset.univ (View.stores_vmem_bits_univ hn rfl) (.inl rfl)) K

/-- The projections of a batch: its projected sequences, input weights and readout weights are stored. -/
def project (M : Bufs) (t : Fin k0_t1_loop.trips) : Prog (TpuEff nD τ sig (Elt F) Λ₀ .tc) (Σ' (_ : BitVec 32) (_ : FVec F S256x384 .f32), FVec F S256x24 .f32) :=
  loadAt M.a0 (k0_off1 t) S1x256x384.size (k0_off1_inb t) h_S1x256x384 fun x =>
  loadAt M.a1 ![0, 0] S384x768.size inb_S384x768_S384x768_0_0 h_S384x768 fun wx =>
  loadAt M.a14 ![0, 0] S256x768.size inb_S256x768_S256x768_0_0 h_S256x768 fun _ =>
  storeAt M.a14 ![0, 0] S256x768.size inb_S256x768_S256x768_0_0 h_S256x768 (shapeCast S256x768 (proj (seqOf x) wx) shapeCasts_S256x768_S256x768) fun _ =>
  loadAt M.a2 ![0, 0] S384x768.size inb_S384x768_S384x768_0_0 h_S384x768 fun wz =>
  loadAt M.a15 ![0, 0] S256x768.size inb_S256x768_S256x768_0_0 h_S256x768 fun _ =>
  storeAt M.a15 ![0, 0] S256x768.size inb_S256x768_S256x768_0_0 h_S256x768 (shapeCast S256x768 (proj (seqOf x) wz) shapeCasts_S256x768_S256x768) fun _ =>
  loadAt M.a3 ![0, 0] S768x24.size inb_S768x24_S768x24_0_0 h_S768x24 fun wd =>
  loadAt M.a4 ![0, 0] S768x16.size inb_S768x16_S768x16_0_0 h_S768x16 fun wb =>
  loadAt M.a17 ![0, 0] S256x16.size inb_S256x16_S256x16_0_0 h_S256x16 fun _ =>
  storeAt M.a17 ![0, 0] S256x16.size inb_S256x16_S256x16_0_0 h_S256x16 (shapeCast S256x16 (toState (proj (seqOf x) wx) wb) shapeCasts_S256x16_S256x16) fun _ =>
  loadAt M.a5 ![0, 0] S768x16.size inb_S768x16_S768x16_0_0 h_S768x16 fun wc =>
  loadAt M.a18 ![0, 0] S256x16.size inb_S256x16_S256x16_0_0 h_S256x16 fun _ =>
  storeAt M.a18 ![0, 0] S256x16.size inb_S256x16_S256x16_0_0 h_S256x16 (shapeCast S256x16 (toState (proj (seqOf x) wx) wc) shapeCasts_S256x16_S256x16) fun _ =>
  .ret ⟨Scf.iv 0#32 1#32 t, seqOf x, dtLow (proj (seqOf x) wx) wd⟩

/-- Sixteen rows of the tables of decays and inputs. -/
def fill (M : Bufs) (t : Fin k0_t2_loop.trips) : Prog (TpuEff nD τ sig (Elt F) Λ₀ .tc) PUnit :=
  loadAt M.a16 (k0_off2 t) S16x768.size (k0_off2_inb t) h_S16x768 fun v =>
  loadAt M.a14 (k0_off2 t) S16x768.size (k0_off2_inb t) h_S16x768 fun x =>
  loadAt M.a17 (k0_off3 t) S16x16.size (k0_off3_inb t) h_S16x16 fun b =>
  loadAt M.a20 ![0, 0] S16x768.size inb_S16x768_S16x768_0_0 h_S16x768 fun a =>
  loadAt M.a21 (k0_off4 t) S16x16x768.size (k0_off4_inb t) h_S16x16x768 fun _ =>
  storeAt M.a21 (k0_off4 t) S16x16x768.size (k0_off4_inb t) h_S16x16x768 (decay v a) fun _ =>
  loadAt M.a22 (k0_off4 t) S16x16x768.size (k0_off4_inb t) h_S16x16x768 fun _ =>
  storeAt M.a22 (k0_off4 t) S16x16x768.size (k0_off4_inb t) h_S16x16x768 (drive v x b) fun _ =>
  .ret ⟨⟩

/-- The tables and the scan of a batch. -/
def scan (M : Bufs) (d : FVec F S256x24 .f32) : Prog (TpuEff nD τ sig (Elt F) Λ₀ .tc) (Σ' (_ : FVec F S256x768 .f32) (_ : FVec F S256x768 .f32), Vec F S256x768 .f32) :=
  loadAt M.a18 ![0, 0] S256x16.size inb_S256x16_S256x16_0_0 h_S256x16 fun c =>
  loadAt M.a19 ![0, 0, 0] S256x1x16.size inb_S256x1x16_S256x1x16_0_0_0 h_S256x1x16 fun _ =>
  storeAt M.a19 ![0, 0, 0] S256x1x16.size inb_S256x1x16_S256x1x16_0_0_0 h_S256x1x16 (readoutOf c) fun _ =>
  loadAt M.a6 ![0, 0] S24x768.size inb_S24x768_S24x768_0_0 h_S24x768 fun w =>
  loadAt M.a7 ![0, 0] S1x768.size inb_S1x768_S1x768_0_0 h_S1x768 fun b =>
  loadAt M.a16 ![0, 0] S256x768.size inb_S256x768_S256x768_0_0 h_S256x768 fun _ =>
  storeAt M.a16 ![0, 0] S256x768.size inb_S256x768_S256x768_0_0 h_S256x768 (shapeCast S256x768 (dtOf d w b) shapeCasts_S256x768_S256x768) fun _ =>
  Prog.bind (Scf.Loop.for k0_t2_loop k0_t2_ok ⟨⟩ fun t _ => fill M t) fun _ =>
  Prog.bind (Scf.Loop.for k0_t3_loop k0_t3_ok (init, init, init, init) fun t h => steps M.a19 M.a21 M.a22 M.a23 M.a24 M.a25 M.a26 t 128 0 h) fun _ =>
  loadAt M.a25 ![0, 0] S256x768.size inb_S256x768_S256x768_0_0 h_S256x768 fun y2 =>
  loadAt M.a26 ![0, 0] S256x768.size inb_S256x768_S256x768_0_0 h_S256x768 fun y3 =>
  loadAt M.a23 ![0, 0] S256x768.size inb_S256x768_S256x768_0_0 h_S256x768 fun y0 =>
  .ret ⟨untr y2, untr y3, y0⟩

/-- The gate, the output projection and the normalisation of a batch. -/
def finish (M : Bufs) (x : FVec F S256x384 .f32) (y2 y3 : FVec F S256x768 .f32) (y0 : Vec F S256x768 .f32) : Prog (TpuEff nD τ sig (Elt F) Λ₀ .tc) (FVec F S256x384 .f32) :=
  loadAt M.a24 ![0, 0] S256x768.size inb_S256x768_S256x768_0_0 h_S256x768 fun y1 =>
  loadAt M.a15 ![0, 0] S256x768.size inb_S256x768_S256x768_0_0 h_S256x768 fun z =>
  loadAt M.a14 ![0, 0] S256x768.size inb_S256x768_S256x768_0_0 h_S256x768 fun xi =>
  loadAt M.a9 ![0, 0] S1x768.size inb_S1x768_S1x768_0_0 h_S1x768 fun d =>
  loadAt M.a10 ![0, 0] S768x384.size inb_S768x384_S768x384_0_0 h_S768x384 fun w =>
  .ret (normed (outProj (gated y0 y1 y2 y3 z xi d) w x))

/-- One batch. -/
def batch (M : Bufs) (t : Fin k0_t1_loop.trips) : Prog (TpuEff nD τ sig (Elt F) Λ₀ .tc) PUnit :=
  Prog.bind (project M t) fun r =>
  Prog.bind (scan M r.2.2) fun y =>
  Prog.bind (finish M r.2.1 y.1 y.2.1 y.2.2) fun n =>
  loadAt M.a11 ![0, 0] S1x384.size inb_S1x384_S1x384_0_0 h_S1x384 fun g =>
  loadAt M.a12 ![0, 0] S1x384.size inb_S1x384_S1x384_0_0 h_S1x384 fun b =>
  loadAt M.a13 (k0_off1 t) S1x256x384.size (k0_off1_inb t) h_S1x256x384 fun _ =>
  storeAt M.a13 (k0_off1 t) S1x256x384.size (k0_off1_inb t) h_S1x256x384 (scaled n g b) fun _ =>
  .ret ⟨⟩

/-- The kernel. -/
def kernel (M : Bufs) : Prog (TpuEff nD τ sig (Elt F) Λ₀ .tc) PUnit :=
  loadAt M.a8 ![0, 0] S16x768.size inb_S16x768_S16x768_0_0 h_S16x768 fun a =>
  loadAt M.a20 ![0, 0] S16x768.size inb_S16x768_S16x768_0_0 h_S16x768 fun _ =>
  storeAt M.a20 ![0, 0] S16x768.size inb_S16x768_S16x768_0_0 h_S16x768 (shapeCast S16x768 (negExp a) shapeCasts_S16x768_S16x768) fun _ =>
  Prog.bind (Scf.Loop.for k0_t1_loop k0_t1_ok ⟨⟩ fun t _ => batch M t) fun _ => .ret ⟨⟩

section
variable (arg0 : Memref sig .tc .vmem S8x256x384 .f32) (harg0 : arg0.IsWhole)
    (arg1 : Memref sig .tc .vmem S384x768 .f32) (harg1 : arg1.IsWhole)
    (arg2 : Memref sig .tc .vmem S384x768 .f32) (harg2 : arg2.IsWhole)
    (arg3 : Memref sig .tc .vmem S768x24 .f32) (harg3 : arg3.IsWhole)
    (arg4 : Memref sig .tc .vmem S768x16 .f32) (harg4 : arg4.IsWhole)
    (arg5 : Memref sig .tc .vmem S768x16 .f32) (harg5 : arg5.IsWhole)
    (arg6 : Memref sig .tc .vmem S24x768 .f32) (harg6 : arg6.IsWhole)
    (arg7 : Memref sig .tc .vmem S1x768 .f32) (harg7 : arg7.IsWhole)
    (arg8 : Memref sig .tc .vmem S16x768 .f32) (harg8 : arg8.IsWhole)
    (arg9 : Memref sig .tc .vmem S1x768 .f32) (harg9 : arg9.IsWhole)
    (arg10 : Memref sig .tc .vmem S768x384 .f32) (harg10 : arg10.IsWhole)
    (arg11 : Memref sig .tc .vmem S1x384 .f32) (harg11 : arg11.IsWhole)
    (arg12 : Memref sig .tc .vmem S1x384 .f32) (harg12 : arg12.IsWhole)
    (arg13 : Memref sig .tc .vmem S8x256x384 .f32) (harg13 : arg13.IsWhole)
    (arg14 : Memref sig .tc .vmem S256x768 .f32) (harg14 : arg14.IsWhole)
    (arg15 : Memref sig .tc .vmem S256x768 .f32) (harg15 : arg15.IsWhole)
    (arg16 : Memref sig .tc .vmem S256x768 .f32) (harg16 : arg16.IsWhole)
    (arg17 : Memref sig .tc .vmem S256x16 .f32) (harg17 : arg17.IsWhole)
    (arg18 : Memref sig .tc .vmem S256x16 .f32) (harg18 : arg18.IsWhole)
    (arg19 : Memref sig .tc .vmem S256x1x16 .f32) (harg19 : arg19.IsWhole)
    (arg20 : Memref sig .tc .vmem S16x768 .f32) (harg20 : arg20.IsWhole)
    (arg21 : Memref sig .tc .vmem S256x16x768 .f32) (harg21 : arg21.IsWhole)
    (arg22 : Memref sig .tc .vmem S256x16x768 .f32) (harg22 : arg22.IsWhole)
    (arg23 : Memref sig .tc .vmem S256x768 .f32) (harg23 : arg23.IsWhole)
    (arg24 : Memref sig .tc .vmem S256x768 .f32) (harg24 : arg24.IsWhole)
    (arg25 : Memref sig .tc .vmem S256x768 .f32) (harg25 : arg25.IsWhole)
    (arg26 : Memref sig .tc .vmem S256x768 .f32) (harg26 : arg26.IsWhole)

/-- The printed projections are `project`. -/
theorem part309_eq (t : Fin k0_t1_loop.trips) : k0_part309 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 0#32 1#32 t = project ⟨arg0, arg1, arg2, arg3, arg4, arg5, arg6, arg7, arg8, arg9, arg10, arg11, arg12, arg13, arg14, arg15, arg16, arg17, arg18, arg19, arg20, arg21, arg22, arg23, arg24, arg25, arg26⟩ t := rfl

set_option maxRecDepth 1000000 in
set_option maxHeartbeats 1000000 in
/-- The printed scan is `scan`. -/
theorem part310_eq (d : FVec F S256x24 .f32) : k0_part310 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 d = scan ⟨arg0, arg1, arg2, arg3, arg4, arg5, arg6, arg7, arg8, arg9, arg10, arg11, arg12, arg13, arg14, arg15, arg16, arg17, arg18, arg19, arg20, arg21, arg22, arg23, arg24, arg25, arg26⟩ d := rfl

/-- The printed gate and normalisation are `finish`. -/
theorem part311_eq (x : FVec F S256x384 .f32) (y2 y3 : FVec F S256x768 .f32) (y0 : Vec F S256x768 .f32) :
    k0_part311 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x y2 y3 y0 = finish ⟨arg0, arg1, arg2, arg3, arg4, arg5, arg6, arg7, arg8, arg9, arg10, arg11, arg12, arg13, arg14, arg15, arg16, arg17, arg18, arg19, arg20, arg21, arg22, arg23, arg24, arg25, arg26⟩ x y2 y3 y0 := rfl

/-- The printed kernel is `kernel`. -/
theorem kernel_eq : cc0_vssm_quad_scan (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 = kernel ⟨arg0, arg1, arg2, arg3, arg4, arg5, arg6, arg7, arg8, arg9, arg10, arg11, arg12, arg13, arg14, arg15, arg16, arg17, arg18, arg19, arg20, arg21, arg22, arg23, arg24, arg25, arg26⟩ := by
  unfold cc0_vssm_quad_scan
  simp only [part309_eq, part310_eq, part311_eq]
  rfl

end

end Cert.KernelIdeal.Scan
-- ==== Proof.Batch.Blocks.lean ====
/-
  Blocks of leading rows of an array of rank two or three: a window of some rows is those rows, and an array written block by block is, between two
  blocks, the finished array in the rows before and the old array in the rows after (`rowsTo`).
-/
module

public import Idealize.ShloMosaic.Lib.Pointwise.Index
public import Idealize.ShloMosaic.Lib.VecWindow

@[expose] public section

noncomputable section

namespace Cert.Mem

open Idealize.ShloMosaic

variable {α : Type} {N A B : ℕ}

/-- The `n` rows from `o` of an array of rank two. -/
def rows2 (x : (⟨2, ![N, A]⟩ : Shape).Idx → α) (o n : ℕ) (h : o + n ≤ N) : (⟨2, ![n, A]⟩ : Shape).Idx → α :=
  fun y => x (ix2 ⟨o + (y 0).val, by have : (y 0).val < n := (y 0).isLt; omega⟩ (y 1))

/-- The `n` rows from `o` of an array of rank three. -/
def rows3 (x : (⟨3, ![N, A, B]⟩ : Shape).Idx → α) (o n : ℕ) (h : o + n ≤ N) : (⟨3, ![n, A, B]⟩ : Shape).Idx → α :=
  fun y => x (ix3 ⟨o + (y 0).val, by have : (y 0).val < n := (y 0).isLt; omega⟩ (y 1) (y 2))

/-- The array `Z` in the rows before `k`, and `Y` in the others. -/
def rowsTo (Y Z : (⟨3, ![N, A, B]⟩ : Shape).Idx → α) (k : ℕ) : (⟨3, ![N, A, B]⟩ : Shape).Idx → α :=
  fun j => if (j 0).val < k then Z j else Y j

theorem rowsTo_zero (Y Z : (⟨3, ![N, A, B]⟩ : Shape).Idx → α) : rowsTo Y Z 0 = Y := by
  funext j; simp [rowsTo]

theorem rowsTo_all (Y Z : (⟨3, ![N, A, B]⟩ : Shape).Idx → α) : rowsTo Y Z N = Z := by
  funext j; exact if_pos (j 0).isLt

/-- A window of rows of an array of rank two. -/
theorem window_rows2 {n o : ℕ} (x : (⟨2, ![N, A]⟩ : Shape).Idx → α) (off : Fin 2 → ℕ) (hoff : off = ![o, 0]) (h : o + n ≤ N)
    (inb : ∀ a, off a + (⟨2, ![n, A]⟩ : Shape).size a ≤ (⟨2, ![N, A]⟩ : Shape).size a) :
    VecWindow.window (s := ⟨2, ![N, A]⟩) x off (⟨2, ![n, A]⟩ : Shape).size inb = rows2 x o n h := by
  subst hoff
  funext y
  refine congrArg x (funext fun a => Fin.ext ?_)
  fin_cases a
  · show o + 1 * (y 0).val = o + (y 0).val
    omega
  · show 0 + 1 * (y 1).val = (y 1).val
    omega

/-- A window of rows of an array of rank three. -/
theorem window_rows3 {n o : ℕ} (x : (⟨3, ![N, A, B]⟩ : Shape).Idx → α) (off : Fin 3 → ℕ) (hoff : off = ![o, 0, 0]) (h : o + n ≤ N)
    (inb : ∀ a, off a + (⟨3, ![n, A, B]⟩ : Shape).size a ≤ (⟨3, ![N, A, B]⟩ : Shape).size a) :
    VecWindow.window (s := ⟨3, ![N, A, B]⟩) x off (⟨3, ![n, A, B]⟩ : Shape).size inb = rows3 x o n h := by
  subst hoff
  funext y
  refine congrArg x (funext fun a => Fin.ext ?_)
  fin_cases a
  · show o + 1 * (y 0).val = o + (y 0).val
    omega
  · show 0 + 1 * (y 1).val = (y 1).val
    omega
  · show 0 + 1 * (y 2).val = (y 2).val
    omega

/-- Putting the rows from `o` to `o'` of `Z` goes from the array up to `o` to the array up to `o'`. -/
theorem put_rowsTo {n o o' : ℕ} (Y Z : (⟨3, ![N, A, B]⟩ : Shape).Idx → α) (off : Fin 3 → ℕ) (hoff : off = ![o, 0, 0]) (h : o + n ≤ N) (ho : o' = o + n)
    (w : (⟨3, ![n, A, B]⟩ : Shape).Idx → α) (hw : w = rows3 Z o n h) :
    VecWindow.put (s := ⟨3, ![N, A, B]⟩) (rowsTo Y Z o) off (⟨3, ![n, A, B]⟩ : Shape).size w = rowsTo Y Z o' := by
  subst hoff hw ho
  funext j
  have h1 : (j 1).val < A := (j 1).isLt
  have h2 : (j 2).val < B := (j 2).isLt
  by_cases hj : o ≤ (j 0).val ∧ (j 0).val < o + n
  · have hin : ∀ a, (![o, 0, 0] : Fin 3 → ℕ) a ≤ (j a).val ∧ (j a).val < (![o, 0, 0] : Fin 3 → ℕ) a + (⟨3, ![n, A, B]⟩ : Shape).size a := by
      intro a; fin_cases a
      · exact hj
      · show 0 ≤ (j 1).val ∧ (j 1).val < 0 + A
        omega
      · show 0 ≤ (j 2).val ∧ (j 2).val < 0 + B
        omega
    unfold VecWindow.put
    rw [dif_pos hin]
    simp only [rowsTo, if_pos hj.2, rows3]
    refine congrArg Z (funext fun a => Fin.ext ?_)
    fin_cases a
    · show o + ((j 0).val - o) = (j 0).val
      omega
    · show (j 1).val - 0 = (j 1).val
      omega
    · show (j 2).val - 0 = (j 2).val
      omega
  · have hout : ¬ ∀ a, (![o, 0, 0] : Fin 3 → ℕ) a ≤ (j a).val ∧ (j a).val < (![o, 0, 0] : Fin 3 → ℕ) a + (⟨3, ![n, A, B]⟩ : Shape).size a :=
      fun hin => hj (hin 0)
    unfold VecWindow.put
    rw [dif_neg hout]
    by_cases hlt : (j 0).val < o
    · simp only [rowsTo, if_pos hlt, if_pos (show (j 0).val < o + n by omega)]
    · simp only [rowsTo, if_neg hlt, if_neg (show ¬ (j 0).val < o + n by omega)]

end Cert.Mem
-- ==== Proof.Batch.Value.lean ====
/-
  What a batch of the kernel computes, as functions of the kernel's inputs: the tables of decays and inputs, the four arrays of contributions and the
  batch's output, and the whole output.
-/
module

public import proofs.«01_k».proof.Proof.Batch.Prog
public import proofs.«01_k».proof.Proof.Batch.Blocks

@[expose] public section

noncomputable section

namespace Cert.KernelIdeal.Scan

open Idealize.ShloMosaic Idealize.SL.Sem
open Cert.KernelIdeal.Gen Cert.Mem

variable {F : FTy → Type} [FloatOps F]

/-- The kernel's inputs. -/
structure Ins (F : FTy → Type) [FloatOps F] where
  x : Vec F S8x256x384 .f32
  wx : Vec F S384x768 .f32
  wz : Vec F S384x768 .f32
  wd : Vec F S768x24 .f32
  wb : Vec F S768x16 .f32
  wc : Vec F S768x16 .f32
  wt : Vec F S24x768 .f32
  bt : Vec F S1x768 .f32
  al : Vec F S16x768 .f32
  dk : Vec F S1x768 .f32
  wo : Vec F S768x384 .f32
  g : Vec F S1x384 .f32
  be : Vec F S1x384 .f32

/-- The table of decays, sixteen rows at a time. -/
def decays (dt : Vec F S256x768 .f32) (a : Vec F S16x768 .f32) : Vec F S256x16x768 .f32 := fun j =>
  decay (rows2 dt (16 * ((j 0).val / 16)) 16 (by have : (j 0).val < 256 := (j 0).isLt; omega)) a (ix3 (Fin.ofNat 16 (j 0).val) (j 1) (j 2))

/-- The table of inputs, sixteen rows at a time. -/
def drives (dt x : Vec F S256x768 .f32) (b : Vec F S256x16 .f32) : Vec F S256x16x768 .f32 := fun j =>
  drive (rows2 dt (16 * ((j 0).val / 16)) 16 (by have : (j 0).val < 256 := (j 0).isLt; omega))
    (rows2 x (16 * ((j 0).val / 16)) 16 (by have : (j 0).val < 256 := (j 0).isLt; omega))
    (rows2 b (16 * ((j 0).val / 16)) 16 (by have : (j 0).val < 256 := (j 0).isLt; omega)) (ix3 (Fin.ofNat 16 (j 0).val) (j 1) (j 2))

theorem decays_rows (dt : Vec F S256x768 .f32) (a : Vec F S16x768 .f32) (t : ℕ) (h : 16 * t + 16 ≤ 256) :
    decay (rows2 dt (16 * t) 16 h) a = rows3 (decays dt a) (16 * t) 16 h := by
  funext y
  have h0 : (y 0).val < 16 := (y 0).isLt
  have e : 16 * ((16 * t + (y 0).val) / 16) = 16 * t := by omega
  have key : ∀ o (h' : o + 16 ≤ 256), o = 16 * t →
      decay (rows2 dt (16 * t) 16 h) a y = decay (rows2 dt o 16 h') a (ix3 (Fin.ofNat 16 (16 * t + (y 0).val)) (y 1) (y 2)) := by
    rintro o h' rfl
    refine congrArg (decay (rows2 dt (16 * t) 16 h) a) (funext fun a => Fin.ext ?_)
    fin_cases a
    · show (y 0).val = (16 * t + (y 0).val) % 16
      omega
    · rfl
    · rfl
  exact key _ _ e

theorem drives_rows (dt x : Vec F S256x768 .f32) (b : Vec F S256x16 .f32) (t : ℕ) (h : 16 * t + 16 ≤ 256) :
    drive (rows2 dt (16 * t) 16 h) (rows2 x (16 * t) 16 h) (rows2 b (16 * t) 16 h) = rows3 (drives dt x b) (16 * t) 16 h := by
  funext y
  have h0 : (y 0).val < 16 := (y 0).isLt
  have e : 16 * ((16 * t + (y 0).val) / 16) = 16 * t := by omega
  have key : ∀ o (h' : o + 16 ≤ 256), o = 16 * t → drive (rows2 dt (16 * t) 16 h) (rows2 x (16 * t) 16 h) (rows2 b (16 * t) 16 h) y
      = drive (rows2 dt o 16 h') (rows2 x o 16 h') (rows2 b o 16 h') (ix3 (Fin.ofNat 16 (16 * t + (y 0).val)) (y 1) (y 2)) := by
    rintro o h' rfl
    refine congrArg (drive (rows2 dt (16 * t) 16 h) (rows2 x (16 * t) 16 h) (rows2 b (16 * t) 16 h)) (funext fun a => Fin.ext ?_)
    fin_cases a
    · show (y 0).val = (16 * t + (y 0).val) % 16
      omega
    · rfl
    · rfl
  exact key _ _ e

namespace Ins

variable (I : Ins F) (t : Fin 8)

/-- The batch's sequence. -/
def seq : FVec F S256x384 .f32 := seqOf (rows3 I.x t.val 1 (by omega))
/-- The batch's projected sequence as the scan reads it. -/
def inner : FVec F S256x768 .f32 := shapeCast S256x768 (proj (I.seq t) I.wx) shapeCasts_S256x768_S256x768
/-- The batch's gate. -/
def gate : FVec F S256x768 .f32 := shapeCast S256x768 (proj (I.seq t) I.wz) shapeCasts_S256x768_S256x768
/-- The batch's input weights. -/
def inW : FVec F S256x16 .f32 := shapeCast S256x16 (toState (proj (I.seq t) I.wx) I.wb) shapeCasts_S256x16_S256x16
/-- The batch's readout weights. -/
def outW : FVec F S256x16 .f32 := shapeCast S256x16 (toState (proj (I.seq t) I.wx) I.wc) shapeCasts_S256x16_S256x16
/-- The batch's step sizes before the softplus. -/
def dts : FVec F S256x768 .f32 := shapeCast S256x768 (dtOf (dtLow (proj (I.seq t) I.wx) I.wd) I.wt I.bt) shapeCasts_S256x768_S256x768
/-- The decay rates. -/
def rates : FVec F S16x768 .f32 := shapeCast S16x768 (negExp I.al) shapeCasts_S16x768_S16x768
/-- The batch's decays. -/
def A : Vec F S256x16x768 .f32 := decays (I.dts t) I.rates
/-- The batch's inputs. -/
def B : Vec F S256x16x768 .f32 := drives (I.dts t) (I.inner t) (I.inW t)
/-- The batch's readout weights with a unit middle axis. -/
def C : Vec F S256x1x16 .f32 := readoutOf (I.outW t)
/-- The contributions of a direction. -/
def y (r : ℕ → Fin 256) (pos : Fin 256 → ℕ) : Vec F S256x768 .f32 := yArr (I.C t) (I.A t) (I.B t) r pos
/-- The batch's gated mean. -/
def mean : FVec F S256x768 .f32 :=
  gated (I.y t rFwd posFwd) (I.y t rBwd posBwd) (untr (I.y t rFwdT posFwd)) (untr (I.y t rBwdT posBwd)) (I.gate t) (I.inner t) I.dk
/-- The batch's output. -/
def outB : FVec F S1x256x384 .f32 := scaled (normed (outProj (I.mean t) I.wo (I.seq t))) I.g I.be
/-- The output. -/
def out : Vec F S8x256x384 .f32 := fun j => I.outB (j 0) (ix3 0 (j 1) (j 2))

theorem out_rows (h : t.val + 1 ≤ 8) : I.outB t = rows3 I.out t.val 1 h := by
  funext y
  have h0 : (y 0).val < 1 := (y 0).isLt
  have e : (⟨t.val + (y 0).val, by omega⟩ : Fin 8) = t := Fin.ext (by show t.val + (y 0).val = t.val; omega)
  show _ = I.outB ⟨t.val + (y 0).val, by omega⟩ (ix3 0 (y 1) (y 2))
  rw [e]
  refine congrArg _ (funext fun a => Fin.ext ?_)
  fin_cases a
  · show (y 0).val = 0
    omega
  · rfl
  · rfl

end Ins

theorem off1_eq : ∀ t : Fin k0_t1_loop.trips, k0_off1 t = ![t.val, 0, 0] := by decide +kernel
theorem off2_eq : ∀ t : Fin k0_t2_loop.trips, k0_off2 t = ![16 * t.val, 0] := by decide +kernel
theorem off3_eq : ∀ t : Fin k0_t2_loop.trips, k0_off3 t = ![16 * t.val, 0] := by decide +kernel
theorem off4_eq : ∀ t : Fin k0_t2_loop.trips, k0_off4 t = ![16 * t.val, 0, 0] := by decide +kernel

end Cert.KernelIdeal.Scan
-- ==== Proof.Batch.Run.lean ====
/-
  The kernel's run by values: the projections, a trip of the loop that fills the tables, the scan, the gate and normalisation, a batch, and the kernel.
-/
module

public import proofs.«01_k».proof.Proof.Scan.Run
public import proofs.«01_k».proof.Proof.Batch.Value

@[expose] public section

noncomputable section

namespace Cert.KernelIdeal.Scan

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen Cert.Mem

variable {F : FTy → Type} [FloatOps F]

local notation "𝕄G" => MT nD τ sig Unit (Elt F) ℕ (UR sig nD τ) ℕ

variable (𝒱 : Variants) (c : Dev nD) (bd : Option 𝒱.V) (E : Set ℕ) (M : Bufs)

/-- A memref of the core with some values. -/
def Any {s : Shape} (m : Memref sig .tc .vmem s .f32) : sProp 𝕄G := iprop(∃ x : Vec F s .f32, Held (c : Thread nD τ) m x)

/-- The thirteen input buffers hold the inputs. -/
def HeldIns (I : Ins F) : sProp 𝕄G :=
  iprop(Held (c : Thread nD τ) M.a0 I.x ∗ Held (c : Thread nD τ) M.a1 I.wx ∗ Held (c : Thread nD τ) M.a2 I.wz ∗ Held (c : Thread nD τ) M.a3 I.wd
    ∗ Held (c : Thread nD τ) M.a4 I.wb ∗ Held (c : Thread nD τ) M.a5 I.wc ∗ Held (c : Thread nD τ) M.a6 I.wt ∗ Held (c : Thread nD τ) M.a7 I.bt
    ∗ Held (c : Thread nD τ) M.a8 I.al ∗ Held (c : Thread nD τ) M.a9 I.dk ∗ Held (c : Thread nD τ) M.a10 I.wo ∗ Held (c : Thread nD τ) M.a11 I.g
    ∗ Held (c : Thread nD τ) M.a12 I.be)

/-- The scratch buffers but the one of the decay rates, with some values. -/
def Scratch : sProp 𝕄G :=
  iprop(Any (F := F) c M.a14 ∗ Any (F := F) c M.a15 ∗ Any (F := F) c M.a16 ∗ Any (F := F) c M.a17 ∗ Any (F := F) c M.a18 ∗ Any (F := F) c M.a19
    ∗ Any (F := F) c M.a21 ∗ Any (F := F) c M.a22 ∗ Any (F := F) c M.a23 ∗ Any (F := F) c M.a24 ∗ Any (F := F) c M.a25 ∗ Any (F := F) c M.a26)

theorem window_row (x : Vec F S8x256x384 .f32) (t : Fin k0_t1_loop.trips) (inb : ∀ a, k0_off1 t a + S1x256x384.size a ≤ S8x256x384.size a) :
    VecWindow.window (s := S8x256x384) x (k0_off1 t) S1x256x384.size inb = rows3 (N := 8) (A := 256) (B := 384) x t.val 1 t.isLt :=
  window_rows3 (N := 8) (A := 256) (B := 384) (n := 1) x (k0_off1 t) (off1_eq t) t.isLt inb

/-- The projections of batch `t`. -/
theorem project_wp (I : Ins F) (t : Fin k0_t1_loop.trips) {Q : (Σ' (_ : BitVec 32) (_ : FVec F S256x384 .f32), FVec F S256x24 .f32) → sProp 𝕄G} :
    iprop(HeldIns c M I ∗ Any (F := F) c M.a14 ∗ Any (F := F) c M.a15 ∗ Any (F := F) c M.a17 ∗ Any (F := F) c M.a18)
      ⊢ iprop(((HeldIns c M I ∗ Held (c : Thread nD τ) M.a14 (I.inner t) ∗ Held (c : Thread nD τ) M.a15 (I.gate t) ∗ Held (c : Thread nD τ) M.a17 (I.inW t)
          ∗ Held (c : Thread nD τ) M.a18 (I.outW t)) -∗ Q ⟨Scf.iv 0#32 1#32 t, I.seq t, dtLow (proj (I.seq t) I.wx) I.wd⟩)
        -∗ wp frame (wpE (defs₀ (F := F)) 𝒱 (c : Thread nD τ) bd) E (project M t) Q) := by
  unfold project HeldIns Any loadAt storeAt
  iintro ⟨⟨H0, H1, H2, H3, H4, H5, HI⟩, ⟨%_, H14⟩, ⟨%_, H15⟩, ⟨%_, H17⟩, ⟨%_, H18⟩⟩ HK
  iapply (load_window (m := M.a0) (x := I.x) 𝒱 (c : Thread nD τ) bd E (k0_off1_inb t)) $$ H0
  iintro H0
  rw [window_row, show seqOf (rows3 (N := 8) (A := 256) (B := 384) I.x t.val 1 t.isLt) = I.seq t from rfl]
  iapply (load_full (m := M.a1) (x := I.wx) 𝒱 (c : Thread nD τ) bd E inb_S384x768_S384x768_0_0) $$ H1
  iintro H1
  iapply (load_full (m := M.a14) 𝒱 (c : Thread nD τ) bd E inb_S256x768_S256x768_0_0) $$ H14
  iintro H14
  iapply (store_full (m := M.a14) 𝒱 (c : Thread nD τ) bd E inb_S256x768_S256x768_0_0) $$ H14
  iintro H14
  iapply (load_full (m := M.a2) (x := I.wz) 𝒱 (c : Thread nD τ) bd E inb_S384x768_S384x768_0_0) $$ H2
  iintro H2
  iapply (load_full (m := M.a15) 𝒱 (c : Thread nD τ) bd E inb_S256x768_S256x768_0_0) $$ H15
  iintro H15
  iapply (store_full (m := M.a15) 𝒱 (c : Thread nD τ) bd E inb_S256x768_S256x768_0_0) $$ H15
  iintro H15
  iapply (load_full (m := M.a3) (x := I.wd) 𝒱 (c : Thread nD τ) bd E inb_S768x24_S768x24_0_0) $$ H3
  iintro H3
  iapply (load_full (m := M.a4) (x := I.wb) 𝒱 (c : Thread nD τ) bd E inb_S768x16_S768x16_0_0) $$ H4
  iintro H4
  iapply (load_full (m := M.a17) 𝒱 (c : Thread nD τ) bd E inb_S256x16_S256x16_0_0) $$ H17
  iintro H17
  iapply (store_full (m := M.a17) 𝒱 (c : Thread nD τ) bd E inb_S256x16_S256x16_0_0) $$ H17
  iintro H17
  iapply (load_full (m := M.a5) (x := I.wc) 𝒱 (c : Thread nD τ) bd E inb_S768x16_S768x16_0_0) $$ H5
  iintro H5
  iapply (load_full (m := M.a18) 𝒱 (c : Thread nD τ) bd E inb_S256x16_S256x16_0_0) $$ H18
  iintro H18
  iapply (store_full (m := M.a18) 𝒱 (c : Thread nD τ) bd E inb_S256x16_S256x16_0_0) $$ H18
  iintro H18
  rw [wp_ret]
  imodintro
  iapply HK
  isplitl [H0 H1 H2 H3 H4 H5 HI]
  · isplitl [H0]; · iexact H0
    isplitl [H1]; · iexact H1
    isplitl [H2]; · iexact H2
    isplitl [H3]; · iexact H3
    isplitl [H4]; · iexact H4
    isplitl [H5]; · iexact H5
    iexact HI
  isplitl [H14]; · iexact H14
  isplitl [H15]; · iexact H15
  isplitl [H17]; · iexact H17
  iexact H18

/-- What the filling loop holds before trip `k`: the tables written in their first `16 * k` rows. -/
def FillInv (dt x : Vec F S256x768 .f32) (b : Vec F S256x16 .f32) (a : Vec F S16x768 .f32) (YA YB : Vec F S256x16x768 .f32) (k : ℕ) : sProp 𝕄G :=
  iprop(Held (c : Thread nD τ) M.a16 dt ∗ Held (c : Thread nD τ) M.a14 x ∗ Held (c : Thread nD τ) M.a17 b ∗ Held (c : Thread nD τ) M.a20 a
    ∗ Held (c : Thread nD τ) M.a21 (rowsTo (N := 256) (A := 16) (B := 768) YA (decays dt a) (16 * k))
    ∗ Held (c : Thread nD τ) M.a22 (rowsTo (N := 256) (A := 16) (B := 768) YB (drives dt x b) (16 * k)))

/-- One trip of the filling loop. -/
theorem fill_wp (dt x : Vec F S256x768 .f32) (b : Vec F S256x16 .f32) (a : Vec F S16x768 .f32) (YA YB : Vec F S256x16x768 .f32) (t : Fin k0_t2_loop.trips) :
    FillInv c M dt x b a YA YB t.val
      ⊢ wp frame (wpE (defs₀ (F := F)) 𝒱 (c : Thread nD τ) bd) E (fill M t) (fun _ => FillInv c M dt x b a YA YB (t.val + 1)) := by
  have ht : t.val < 16 := t.isLt
  have h : 16 * t.val + 16 ≤ 256 := by omega
  unfold fill FillInv loadAt storeAt
  iintro ⟨H16, H14, H17, H20, H21, H22⟩
  iapply (load_window (m := M.a16) (x := dt) 𝒱 (c : Thread nD τ) bd E (k0_off2_inb t)) $$ H16
  iintro H16
  iapply (load_window (m := M.a14) (x := x) 𝒱 (c : Thread nD τ) bd E (k0_off2_inb t)) $$ H14
  iintro H14
  iapply (load_window (m := M.a17) (x := b) 𝒱 (c : Thread nD τ) bd E (k0_off3_inb t)) $$ H17
  iintro H17
  iapply (load_full (m := M.a20) (x := a) 𝒱 (c : Thread nD τ) bd E inb_S16x768_S16x768_0_0) $$ H20
  iintro H20
  iapply (load_window (m := M.a21) 𝒱 (c : Thread nD τ) bd E (k0_off4_inb t)) $$ H21
  iintro H21
  iapply (store_window (m := M.a21) 𝒱 (c : Thread nD τ) bd E (k0_off4_inb t)) $$ H21
  iintro H21
  iapply (load_window (m := M.a22) 𝒱 (c : Thread nD τ) bd E (k0_off4_inb t)) $$ H22
  iintro H22
  iapply (store_window (m := M.a22) 𝒱 (c : Thread nD τ) bd E (k0_off4_inb t)) $$ H22
  iintro H22
  have e16 := window_rows2 (N := 256) (A := 768) (n := 16) dt (k0_off2 t) (off2_eq t) h (k0_off2_inb t)
  have e14 := window_rows2 (N := 256) (A := 768) (n := 16) x (k0_off2 t) (off2_eq t) h (k0_off2_inb t)
  have e17 := window_rows2 (N := 256) (A := 16) (n := 16) b (k0_off3 t) (off3_eq t) h (k0_off3_inb t)
  have e21 := put_rowsTo (N := 256) (A := 16) (B := 768) (n := 16) (o' := 16 * (t.val + 1)) YA (decays dt a) (k0_off4 t) (off4_eq t) h (by omega)
    (decay (VecWindow.window (s := S256x768) dt (k0_off2 t) S16x768.size (k0_off2_inb t)) a) ((congrArg (decay · a) e16).trans (decays_rows dt a t.val h))
  have e22 := put_rowsTo (N := 256) (A := 16) (B := 768) (n := 16) (o' := 16 * (t.val + 1)) YB (drives dt x b) (k0_off4 t) (off4_eq t) h (by omega)
    (drive (VecWindow.window (s := S256x768) dt (k0_off2 t) S16x768.size (k0_off2_inb t)) (VecWindow.window (s := S256x768) x (k0_off2 t) S16x768.size (k0_off2_inb t))
      (VecWindow.window (s := S256x16) b (k0_off3 t) S16x16.size (k0_off3_inb t)))
    ((congr (congr (congrArg drive e16) e14) e17).trans (drives_rows dt x b t.val h))
  rw [wp_ret, ← e21, ← e22]
  imodintro
  isplitl [H16]; · iexact H16
  isplitl [H14]; · iexact H14
  isplitl [H17]; · iexact H17
  isplitl [H20]; · iexact H20
  isplitl [H21]; · iexact H21
  iexact H22

/-- The scan of batch `t`. -/
theorem scan_wp (I : Ins F) (t : Fin 8)
    {Q : (Σ' (_ : FVec F S256x768 .f32) (_ : FVec F S256x768 .f32), Vec F S256x768 .f32) → sProp 𝕄G} :
    iprop(HeldIns c M I ∗ Held (c : Thread nD τ) M.a14 (I.inner t) ∗ Held (c : Thread nD τ) M.a17 (I.inW t) ∗ Held (c : Thread nD τ) M.a18 (I.outW t)
        ∗ Held (c : Thread nD τ) M.a20 I.rates ∗ Any (F := F) c M.a16 ∗ Any (F := F) c M.a19 ∗ Any (F := F) c M.a21 ∗ Any (F := F) c M.a22 ∗ Any (F := F) c M.a23
        ∗ Any (F := F) c M.a24 ∗ Any (F := F) c M.a25 ∗ Any (F := F) c M.a26)
      ⊢ iprop(((HeldIns c M I ∗ Held (c : Thread nD τ) M.a14 (I.inner t) ∗ Held (c : Thread nD τ) M.a17 (I.inW t) ∗ Held (c : Thread nD τ) M.a18 (I.outW t)
            ∗ Held (c : Thread nD τ) M.a20 I.rates ∗ Any (F := F) c M.a16 ∗ Any (F := F) c M.a19 ∗ Any (F := F) c M.a21 ∗ Any (F := F) c M.a22
            ∗ Any (F := F) c M.a23 ∗ Held (c : Thread nD τ) M.a24 (I.y t rBwd posBwd) ∗ Any (F := F) c M.a25 ∗ Any (F := F) c M.a26)
          -∗ Q ⟨untr (I.y t rFwdT posFwd), untr (I.y t rBwdT posBwd), I.y t rFwd posFwd⟩)
        -∗ wp frame (wpE (defs₀ (F := F)) 𝒱 (c : Thread nD τ) bd) E (scan M (dtLow (proj (I.seq t) I.wx) I.wd)) Q) := by
  unfold scan HeldIns Any loadAt storeAt Ins.y
  iintro ⟨⟨H0, H1, H2, H3, H4, H5, H6, H7, HI⟩, H14, H17, H18, H20, ⟨%_, H16⟩, ⟨%_, H19⟩, ⟨%YA, H21⟩, ⟨%YB, H22⟩, ⟨%Y0, H23⟩, ⟨%Y1, H24⟩, ⟨%Y2, H25⟩, ⟨%Y3, H26⟩⟩ HK
  iapply (load_full (m := M.a18) (x := I.outW t) 𝒱 (c : Thread nD τ) bd E inb_S256x16_S256x16_0_0) $$ H18
  iintro H18
  iapply (load_full (m := M.a19) 𝒱 (c : Thread nD τ) bd E inb_S256x1x16_S256x1x16_0_0_0) $$ H19
  iintro H19
  iapply (store_full (m := M.a19) 𝒱 (c : Thread nD τ) bd E inb_S256x1x16_S256x1x16_0_0_0) $$ H19
  iintro H19
  iapply (load_full (m := M.a6) (x := I.wt) 𝒱 (c : Thread nD τ) bd E inb_S24x768_S24x768_0_0) $$ H6
  iintro H6
  iapply (load_full (m := M.a7) (x := I.bt) 𝒱 (c : Thread nD τ) bd E inb_S1x768_S1x768_0_0) $$ H7
  iintro H7
  iapply (load_full (m := M.a16) 𝒱 (c : Thread nD τ) bd E inb_S256x768_S256x768_0_0) $$ H16
  iintro H16
  iapply (store_full (m := M.a16) 𝒱 (c : Thread nD τ) bd E inb_S256x768_S256x768_0_0) $$ H16
  iintro H16
  iapply (Scf.wp_for_bind frame (wpE (defs₀ (F := F)) 𝒱 (c : Thread nD τ) bd) E _ _ _ k0_t2_ok (⟨⟩ : PUnit) (fun t _ => fill M t)
    (fun k _ => FillInv c M (I.dts t) (I.inner t) (I.inW t) I.rates YA YB k) (fun k _ => fill_wp 𝒱 c bd E M _ _ _ _ YA YB k)) $$ [H16 H14 H17 H20 H21 H22]
  · unfold FillInv
    rw [rowsTo_zero, rowsTo_zero]
    isplitl [H16]; · iexact H16
    isplitl [H14]; · iexact H14
    isplitl [H17]; · iexact H17
    isplitl [H20]; · iexact H20
    isplitl [H21]; · iexact H21
    iexact H22
  iintro %_
  unfold FillInv
  rw [show 16 * Scf.trips _ _ _ = 256 from rfl, rowsTo_all, rowsTo_all]
  iintro ⟨H16, H14, H17, H20, H21, H22⟩
  iapply (Scf.wp_for_bind frame (wpE (defs₀ (F := F)) 𝒱 (c : Thread nD τ) bd) E _ _ _ k0_t3_ok ((init, init, init, init) : State F × State F × State F × State F)
    (fun t h => steps M.a19 M.a21 M.a22 M.a23 M.a24 M.a25 M.a26 t 128 0 h)
    (fun k h => iprop(Inv c M.a19 M.a21 M.a22 M.a23 M.a24 M.a25 M.a26 (I.C t) (I.A t) (I.B t) Y0 Y1 Y2 Y3 (128 * k) ∗ ⌜h = states4 (I.A t) (I.B t) (128 * k)⌝))
    (fun k h => by
      iintro ⟨H, %e⟩
      subst e
      iapply (steps_wp 𝒱 c bd E M.a19 M.a21 M.a22 M.a23 M.a24 M.a25 M.a26 (I.C t) (I.A t) (I.B t) Y0 Y1 Y2 Y3 k 128 0 rfl)
      iexact H)) $$ [H19 H21 H22 H23 H24 H25 H26]
  · unfold Inv
    rw [show 128 * 0 = 0 from rfl, upTo_zero, upTo_zero, upTo_zero, upTo_zero]
    isplitl
    · isplitl [H19]; · iexact H19
      isplitl [H21]; · iexact H21
      isplitl [H22]; · iexact H22
      isplitl [H23]; · iexact H23
      isplitl [H24]; · iexact H24
      isplitl [H25]; · iexact H25
      iexact H26
    · ipureintro; rfl
  iintro %_
  unfold Inv
  rw [show 128 * Scf.trips _ _ _ = 256 from rfl, upTo_all _ _ _ posFwd_lt, upTo_all _ _ _ posBwd_lt, upTo_all _ _ _ posFwd_lt, upTo_all _ _ _ posBwd_lt]
  iintro ⟨⟨H19, H21, H22, H23, H24, H25, H26⟩, _⟩
  iapply (load_full (m := M.a25) 𝒱 (c : Thread nD τ) bd E inb_S256x768_S256x768_0_0) $$ H25
  iintro H25
  iapply (load_full (m := M.a26) 𝒱 (c : Thread nD τ) bd E inb_S256x768_S256x768_0_0) $$ H26
  iintro H26
  iapply (load_full (m := M.a23) 𝒱 (c : Thread nD τ) bd E inb_S256x768_S256x768_0_0) $$ H23
  iintro H23
  rw [wp_ret]
  imodintro
  iapply HK
  isplitl [H0 H1 H2 H3 H4 H5 H6 H7 HI]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact HI
  isplitl [H14]; · iexact H14
  isplitl [H17]; · iexact H17
  isplitl [H18]; · iexact H18
  isplitl [H20]; · iexact H20
  isplitl [H16]; · iexists _; iexact H16
  isplitl [H19]; · iexists _; iexact H19
  isplitl [H21]; · iexists _; iexact H21
  isplitl [H22]; · iexists _; iexact H22
  isplitl [H23]; · iexists _; iexact H23
  isplitl [H24]; · iexact H24
  isplitl [H25]; · iexists _; iexact H25
  iexists _; iexact H26

/-- The gate and the normalisation of batch `t`. -/
theorem finish_wp (I : Ins F) (t : Fin 8) {Q : FVec F S256x384 .f32 → sProp 𝕄G} :
    iprop(HeldIns c M I ∗ Held (c : Thread nD τ) M.a24 (I.y t rBwd posBwd) ∗ Held (c : Thread nD τ) M.a15 (I.gate t) ∗ Held (c : Thread nD τ) M.a14 (I.inner t))
      ⊢ iprop(((HeldIns c M I ∗ Any (F := F) c M.a24 ∗ Any (F := F) c M.a15 ∗ Any (F := F) c M.a14)
          -∗ Q (normed (outProj (I.mean t) I.wo (I.seq t))))
        -∗ wp frame (wpE (defs₀ (F := F)) 𝒱 (c : Thread nD τ) bd) E
            (finish M (I.seq t) (untr (I.y t rFwdT posFwd)) (untr (I.y t rBwdT posBwd)) (I.y t rFwd posFwd)) Q) := by
  unfold finish HeldIns Any loadAt Ins.mean
  iintro ⟨⟨H0, H1, H2, H3, H4, H5, H6, H7, H8, H9, H10, HI⟩, H24, H15, H14⟩ HK
  iapply (load_full (m := M.a24) (x := I.y t rBwd posBwd) 𝒱 (c : Thread nD τ) bd E inb_S256x768_S256x768_0_0) $$ H24
  iintro H24
  iapply (load_full (m := M.a15) (x := I.gate t) 𝒱 (c : Thread nD τ) bd E inb_S256x768_S256x768_0_0) $$ H15
  iintro H15
  iapply (load_full (m := M.a14) (x := I.inner t) 𝒱 (c : Thread nD τ) bd E inb_S256x768_S256x768_0_0) $$ H14
  iintro H14
  iapply (load_full (m := M.a9) (x := I.dk) 𝒱 (c : Thread nD τ) bd E inb_S1x768_S1x768_0_0) $$ H9
  iintro H9
  iapply (load_full (m := M.a10) (x := I.wo) 𝒱 (c : Thread nD τ) bd E inb_S768x384_S768x384_0_0) $$ H10
  iintro H10
  rw [wp_ret]
  imodintro
  iapply HK
  isplitl [H0 H1 H2 H3 H4 H5 H6 H7 H8 H9 H10 HI]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact HI
  isplitl [H24]; · iexists _; iexact H24
  isplitl [H15]; · iexists _; iexact H15
  iexists _; iexact H14

/-- What the batch loop holds before trip `k`: the output written in its first `k` rows. -/
def BatchInv (I : Ins F) (O : Vec F S8x256x384 .f32) (k : ℕ) : sProp 𝕄G :=
  iprop(HeldIns c M I ∗ Held (c : Thread nD τ) M.a20 I.rates ∗ Held (c : Thread nD τ) M.a13 (rowsTo (N := 8) (A := 256) (B := 384) O I.out k) ∗ Scratch (F := F) c M)

/-- One batch. -/
theorem batch_wp (I : Ins F) (O : Vec F S8x256x384 .f32) (t : Fin k0_t1_loop.trips) :
    BatchInv c M I O t.val ⊢ wp frame (wpE (defs₀ (F := F)) 𝒱 (c : Thread nD τ) bd) E (batch M t) (fun _ => BatchInv c M I O (t.val + 1)) := by
  have h : t.val + 1 ≤ 8 := t.isLt
  unfold batch BatchInv Scratch
  iintro ⟨HI, H20, H13, H14, H15, H16, H17, H18, H19, H21, H22, H23, H24, H25, H26⟩
  rw [show ∀ (p : Prog (TpuEff nD τ sig (Elt F) Λ₀ .tc) (Σ' (_ : BitVec 32) (_ : FVec F S256x384 .f32), FVec F S256x24 .f32)) k, Prog.bind p k = (p >>= k) from fun _ _ => rfl, wp_bind]
  iapply (project_wp 𝒱 c bd E M I t) $$ [HI H14 H15 H17 H18]
  · isplitl [HI]; · iexact HI
    isplitl [H14]; · iexact H14
    isplitl [H15]; · iexact H15
    isplitl [H17]; · iexact H17
    iexact H18
  iintro ⟨HI, H14, H15, H17, H18⟩
  rw [show ∀ (p : Prog (TpuEff nD τ sig (Elt F) Λ₀ .tc) (Σ' (_ : FVec F S256x768 .f32) (_ : FVec F S256x768 .f32), Vec F S256x768 .f32)) k, Prog.bind p k = (p >>= k) from fun _ _ => rfl, wp_bind]
  iapply (scan_wp 𝒱 c bd E M I t) $$ [HI H14 H17 H18 H20 H16 H19 H21 H22 H23 H24 H25 H26]
  · isplitl [HI]; · iexact HI
    isplitl [H14]; · iexact H14
    isplitl [H17]; · iexact H17
    isplitl [H18]; · iexact H18
    isplitl [H20]; · iexact H20
    isplitl [H16]; · iexact H16
    isplitl [H19]; · iexact H19
    isplitl [H21]; · iexact H21
    isplitl [H22]; · iexact H22
    isplitl [H23]; · iexact H23
    isplitl [H24]; · iexact H24
    isplitl [H25]; · iexact H25
    iexact H26
  iintro ⟨HI, H14, H17, H18, H20, H16, H19, H21, H22, H23, H24, H25, H26⟩
  rw [show ∀ (p : Prog (TpuEff nD τ sig (Elt F) Λ₀ .tc) (FVec F S256x384 .f32)) k, Prog.bind p k = (p >>= k) from fun _ _ => rfl, wp_bind]
  iapply (finish_wp 𝒱 c bd E M I t) $$ [HI H24 H15 H14]
  · isplitl [HI]; · iexact HI
    isplitl [H24]; · iexact H24
    isplitl [H15]; · iexact H15
    iexact H14
  unfold HeldIns loadAt storeAt
  iintro ⟨⟨H0, H1, H2, H3, H4, H5, H6, H7, H8, H9, H10, H11, H12⟩, H24, H15, H14⟩
  iapply (load_full (m := M.a11) (x := I.g) 𝒱 (c : Thread nD τ) bd E inb_S1x384_S1x384_0_0) $$ H11
  iintro H11
  iapply (load_full (m := M.a12) (x := I.be) 𝒱 (c : Thread nD τ) bd E inb_S1x384_S1x384_0_0) $$ H12
  iintro H12
  iapply (load_window (m := M.a13) 𝒱 (c : Thread nD τ) bd E (k0_off1_inb t)) $$ H13
  iintro H13
  iapply (store_window (m := M.a13) 𝒱 (c : Thread nD τ) bd E (k0_off1_inb t)) $$ H13
  iintro H13
  rw [wp_ret, ← put_rowsTo (N := 8) (A := 256) (B := 384) (n := 1) (o := t.val) (o' := t.val + 1) O I.out (k0_off1 t) (off1_eq t) h rfl _ (I.out_rows t h)]
  imodintro
  isplitl [H0 H1 H2 H3 H4 H5 H6 H7 H8 H9 H10 H11 H12]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  isplitl [H20]; · iexact H20
  isplitl [H13]; · iexact H13
  isplitl [H14]; · iexact H14
  isplitl [H15]; · iexact H15
  isplitl [H16]; · iexact H16
  isplitl [H17]; · unfold Any; iexists _; iexact H17
  isplitl [H18]; · unfold Any; iexists _; iexact H18
  isplitl [H19]; · iexact H19
  isplitl [H21]; · iexact H21
  isplitl [H22]; · iexact H22
  isplitl [H23]; · iexact H23
  isplitl [H24]; · iexact H24
  isplitl [H25]; · iexact H25
  iexact H26

/-- The kernel: from the inputs held, an output and scratch with some values, to the inputs held, the output `I.out` and scratch with some values. -/
theorem kernel_wp (I : Ins F) {Q : PUnit → sProp 𝕄G} :
    iprop(HeldIns c M I ∗ Any (F := F) c M.a20 ∗ Any (F := F) c M.a13 ∗ Scratch (F := F) c M)
      ⊢ iprop(((HeldIns c M I ∗ Any (F := F) c M.a20 ∗ Held (c : Thread nD τ) M.a13 I.out ∗ Scratch (F := F) c M) -∗ Q ⟨⟩)
        -∗ wp frame (wpE (defs₀ (F := F)) 𝒱 (c : Thread nD τ) bd) E (kernel M) Q) := by
  unfold kernel loadAt storeAt
  iintro ⟨HI, H20, H13, HS⟩ HK
  unfold HeldIns
  icases HI with ⟨H0, H1, H2, H3, H4, H5, H6, H7, H8, H9, H10, H11, H12⟩
  unfold Any
  icases H20 with ⟨%_, H20⟩
  icases H13 with ⟨%O, H13⟩
  iapply (load_full (m := M.a8) (x := I.al) 𝒱 (c : Thread nD τ) bd E inb_S16x768_S16x768_0_0) $$ H8
  iintro H8
  iapply (load_full (m := M.a20) 𝒱 (c : Thread nD τ) bd E inb_S16x768_S16x768_0_0) $$ H20
  iintro H20
  iapply (store_full (m := M.a20) 𝒱 (c : Thread nD τ) bd E inb_S16x768_S16x768_0_0) $$ H20
  iintro H20
  iapply (Scf.wp_for_bind frame (wpE (defs₀ (F := F)) 𝒱 (c : Thread nD τ) bd) E _ _ _ k0_t1_ok (⟨⟩ : PUnit) (fun t _ => batch M t)
    (fun k _ => BatchInv c M I O k) (fun k _ => batch_wp 𝒱 c bd E M I O k)) $$ [H0 H1 H2 H3 H4 H5 H6 H7 H8 H9 H10 H11 H12 H20 H13 HS]
  · unfold BatchInv HeldIns
    rw [rowsTo_zero]
    isplitl [H0 H1 H2 H3 H4 H5 H6 H7 H8 H9 H10 H11 H12]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    isplitl [H20]; · iexact H20
    isplitl [H13]; · iexact H13
    iexact HS
  iintro %_
  unfold BatchInv
  rw [show Scf.trips _ _ _ = 8 from rfl, rowsTo_all]
  iintro ⟨HI, H20, H13, HS⟩
  rw [wp_ret]
  imodintro
  iapply HK
  unfold HeldIns
  isplitl [HI]; · iexact HI
  isplitl [H20]; · iexists _; iexact H20
  isplitl [H13]; · iexact H13
  iexact HS

end Cert.KernelIdeal.Scan
-- ==== Proof.Launch.Body.lean ====
/-
  The kernel inside its launch: the body at the one point of the pipeline, the launch's run, and what the launch leaves — the output's buffer at
  `Ins.out` of the arrays the host prepared, the arguments as they were, every semaphore counter at zero.
-/
module

public import proofs.«01_k».proof.Proof.Gen.KernelIdeal.Frame
public import proofs.«01_k».proof.Proof.Batch.Run
public import Idealize.ShloMosaic.Lib.Pipeline.TableIdle

@[expose] public section

noncomputable section

namespace Cert.KernelIdeal.Scan

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.KernelIdeal.Gen Cert.Mem

variable {F : FTy → Type} [FloatOps F]

local notation "𝕄G" => MT nD τ sig Unit (Elt F) ℕ (UR sig nD τ) ℕ

variable (m : (ℓ : Loc nD τ sig) → Buf (Elt F) ℓ) (ρ : Dev nD → PrngReg)

/-- The kernel's thirteen inputs: the blocks of the arrays the host prepared. -/
def ins (c : Dev nD) (t : Fin cfg0.N) : Ins F :=
  ⟨iblk m c 0 t, iblk m c 1 t, iblk m c 2 t, iblk m c 3 t, iblk m c 4 t, iblk m c 5 t, iblk m c 6 t, iblk m c 7 t, iblk m c 8 t, iblk m c 9 t,
    iblk m c 10 t, iblk m c 11 t, iblk m c 12 t⟩

/-- The buffers the launch hands the kernel. -/
def bufs (t : Fin cfg0.N) : Bufs :=
  ⟨win0_0.stage (cfg0.slots t 0), win0_1.stage (cfg0.slots t 1), win0_2.stage (cfg0.slots t 2), win0_3.stage (cfg0.slots t 3),
    win0_4.stage (cfg0.slots t 4), win0_5.stage (cfg0.slots t 5), win0_6.stage (cfg0.slots t 6), win0_7.stage (cfg0.slots t 7),
    win0_8.stage (cfg0.slots t 8), win0_9.stage (cfg0.slots t 9), win0_10.stage (cfg0.slots t 10), win0_11.stage (cfg0.slots t 11),
    win0_12.stage (cfg0.slots t 12), win0_13.stage (cfg0.slots t 13), Memref.whole cc0_scratch0, Memref.whole cc0_scratch1,
    Memref.whole cc0_scratch2, Memref.whole cc0_scratch3, Memref.whole cc0_scratch4, Memref.whole cc0_scratch5, Memref.whole cc0_scratch6,
    Memref.whole cc0_scratch7, Memref.whole cc0_scratch8, Memref.whole cc0_scratch9, Memref.whole cc0_scratch10, Memref.whole cc0_scratch11,
    Memref.whole cc0_scratch12⟩

/-- The launch's proof data: the arrays as the host left them; each input's buffer keeps its block, the output's ends at `Ins.out`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (ins m c t).out
  Φ _ := Pipeline.ΦA spec0 c
  q _ := fullShare
  owed _ := 0

theorem before0 (c : Dev nD) (t : Fin cfg0.N) (d) : (dats m 0 c).before 0 t d = iblk m c 0 t := before0_0_of m (dats m 0 c) rfl (fun _ => rfl) t d
theorem before1 (c : Dev nD) (t : Fin cfg0.N) (d) : (dats m 0 c).before 1 t d = iblk m c 1 t := before0_1_of m (dats m 0 c) rfl (fun _ => rfl) t d
theorem before2 (c : Dev nD) (t : Fin cfg0.N) (d) : (dats m 0 c).before 2 t d = iblk m c 2 t := before0_2_of m (dats m 0 c) rfl (fun _ => rfl) t d
theorem before3 (c : Dev nD) (t : Fin cfg0.N) (d) : (dats m 0 c).before 3 t d = iblk m c 3 t := before0_3_of m (dats m 0 c) rfl (fun _ => rfl) t d
theorem before4 (c : Dev nD) (t : Fin cfg0.N) (d) : (dats m 0 c).before 4 t d = iblk m c 4 t := before0_4_of m (dats m 0 c) rfl (fun _ => rfl) t d
theorem before5 (c : Dev nD) (t : Fin cfg0.N) (d) : (dats m 0 c).before 5 t d = iblk m c 5 t := before0_5_of m (dats m 0 c) rfl (fun _ => rfl) t d
theorem before6 (c : Dev nD) (t : Fin cfg0.N) (d) : (dats m 0 c).before 6 t d = iblk m c 6 t := before0_6_of m (dats m 0 c) rfl (fun _ => rfl) t d
theorem before7 (c : Dev nD) (t : Fin cfg0.N) (d) : (dats m 0 c).before 7 t d = iblk m c 7 t := before0_7_of m (dats m 0 c) rfl (fun _ => rfl) t d
theorem before8 (c : Dev nD) (t : Fin cfg0.N) (d) : (dats m 0 c).before 8 t d = iblk m c 8 t := before0_8_of m (dats m 0 c) rfl (fun _ => rfl) t d
theorem before9 (c : Dev nD) (t : Fin cfg0.N) (d) : (dats m 0 c).before 9 t d = iblk m c 9 t := before0_9_of m (dats m 0 c) rfl (fun _ => rfl) t d
theorem before10 (c : Dev nD) (t : Fin cfg0.N) (d) : (dats m 0 c).before 10 t d = iblk m c 10 t := before0_10_of m (dats m 0 c) rfl (fun _ => rfl) t d
theorem before11 (c : Dev nD) (t : Fin cfg0.N) (d) : (dats m 0 c).before 11 t d = iblk m c 11 t := before0_11_of m (dats m 0 c) rfl (fun _ => rfl) t d
theorem before12 (c : Dev nD) (t : Fin cfg0.N) (d) : (dats m 0 c).before 12 t d = iblk m c 12 t := before0_12_of m (dats m 0 c) rfl (fun _ => rfl) t d

/-- Ownership at values is `Held`. -/
theorem owns_held (c : Dev nD) {s : Shape} (M : Memref sig .tc .vmem s .f32) (X : Vec F s .f32) :
    (owns (c : Thread nD τ) M fullShare X : sProp 𝕄G) = Held (c : Thread nD τ) M X := owns_eq_rep _ _ _ _

/-- A whole buffer at some contents is its memref with some values. -/
theorem any_whole (c : Dev nD) (b : Ref sig .tc) {s : Shape} (M : Memref sig .tc .vmem s .f32)
    (h : ∀ X : Vec F s .f32, ∃ f : Buf (Elt F) ((c : Thread nD τ).loc b),
      (owns (c : Thread nD τ) M fullShare X : sProp 𝕄G) = (((c : Thread nD τ).loc b) ↦{fullShare} f))
    (h' : ∀ f : Buf (Elt F) ((c : Thread nD τ).loc b), ∃ X : Vec F s .f32,
      (owns (c : Thread nD τ) M fullShare X : sProp 𝕄G) = (((c : Thread nD τ).loc b) ↦{fullShare} f)) :
    (Any (F := F) c M : sProp 𝕄G) = iprop(∃ f : Buf (Elt F) ((c : Thread nD τ).loc b), ((c : Thread nD τ).loc b) ↦{fullShare} f) := by
  unfold Any
  have h₁ : iprop(∃ X : Vec F s .f32, Held (c : Thread nD τ) M X) ⊢ (iprop(∃ f : Buf (Elt F) ((c : Thread nD τ).loc b), ((c : Thread nD τ).loc b) ↦{fullShare} f) : sProp 𝕄G) := by
    iintro ⟨%X, H⟩
    obtain ⟨f, e⟩ := h X
    iexists f
    rw [← e, owns_held]
    iexact H
  have h₂ : iprop(∃ f : Buf (Elt F) ((c : Thread nD τ).loc b), ((c : Thread nD τ).loc b) ↦{fullShare} f) ⊢ (iprop(∃ X : Vec F s .f32, Held (c : Thread nD τ) M X) : sProp 𝕄G) := by
    iintro ⟨%f, H⟩
    obtain ⟨X, e⟩ := h' f
    iexists X
    rw [← owns_held, e]
    iexact H
  exact BI.equiv_iff.mp ⟨h₁, h₂⟩

/-- What the launch's scratch is, buffer by buffer: some values in each. -/
theorem scratch_eq (c : Dev nD) (t : Fin cfg0.N) : (Pipeline.scopedRest (Ix := Unit) (Name := ℕ) (U := UR sig nD τ) (Lvl := ℕ) (Val := Elt F) spec0 c : sProp 𝕄G)
    = iprop(Any (F := F) c (bufs t).a14 ∗ Any (F := F) c (bufs t).a15 ∗ Any (F := F) c (bufs t).a16 ∗ Any (F := F) c (bufs t).a17
      ∗ Any (F := F) c (bufs t).a18 ∗ Any (F := F) c (bufs t).a19 ∗ Any (F := F) c (bufs t).a20 ∗ Any (F := F) c (bufs t).a21
      ∗ Any (F := F) c (bufs t).a22 ∗ Any (F := F) c (bufs t).a23 ∗ Any (F := F) c (bufs t).a24 ∗ Any (F := F) c (bufs t).a25
      ∗ Any (F := F) c (bufs t).a26) := by
  rw [scopedRest0_eq]
  rw [any_whole c cc0_scratch0 (bufs t).a14 (fun X => ⟨X, owns_whole _ _ _ _⟩) (fun f => ⟨f, owns_whole _ _ _ _⟩),
    any_whole c cc0_scratch1 (bufs t).a15 (fun X => ⟨X, owns_whole _ _ _ _⟩) (fun f => ⟨f, owns_whole _ _ _ _⟩),
    any_whole c cc0_scratch2 (bufs t).a16 (fun X => ⟨X, owns_whole _ _ _ _⟩) (fun f => ⟨f, owns_whole _ _ _ _⟩),
    any_whole c cc0_scratch3 (bufs t).a17 (fun X => ⟨X, owns_whole _ _ _ _⟩) (fun f => ⟨f, owns_whole _ _ _ _⟩),
    any_whole c cc0_scratch4 (bufs t).a18 (fun X => ⟨X, owns_whole _ _ _ _⟩) (fun f => ⟨f, owns_whole _ _ _ _⟩),
    any_whole c cc0_scratch5 (bufs t).a19 (fun X => ⟨X, owns_whole _ _ _ _⟩) (fun f => ⟨f, owns_whole _ _ _ _⟩),
    any_whole c cc0_scratch6 (bufs t).a20 (fun X => ⟨X, owns_whole _ _ _ _⟩) (fun f => ⟨f, owns_whole _ _ _ _⟩),
    any_whole c cc0_scratch7 (bufs t).a21 (fun X => ⟨X, owns_whole _ _ _ _⟩) (fun f => ⟨f, owns_whole _ _ _ _⟩),
    any_whole c cc0_scratch8 (bufs t).a22 (fun X => ⟨X, owns_whole _ _ _ _⟩) (fun f => ⟨f, owns_whole _ _ _ _⟩),
    any_whole c cc0_scratch9 (bufs t).a23 (fun X => ⟨X, owns_whole _ _ _ _⟩) (fun f => ⟨f, owns_whole _ _ _ _⟩),
    any_whole c cc0_scratch10 (bufs t).a24 (fun X => ⟨X, owns_whole _ _ _ _⟩) (fun f => ⟨f, owns_whole _ _ _ _⟩),
    any_whole c cc0_scratch11 (bufs t).a25 (fun X => ⟨X, owns_whole _ _ _ _⟩) (fun f => ⟨f, owns_whole _ _ _ _⟩),
    any_whole c cc0_scratch12 (bufs t).a26 (fun X => ⟨X, owns_whole _ _ _ _⟩) (fun f => ⟨f, owns_whole _ _ _ _⟩)]

/-- What the table of bodies holds at a point: the kernel on that point's buffers. -/
theorem body_row (t : Fin cfg0.N) : defs₀ (F := F) .tc cfg0.body (cfg0.bodyArgs t (cfg0.slots t)) = kernel (bufs t) := by
  have h : defs₀ (F := F) .tc cfg0.body (cfg0.bodyArgs t (cfg0.slots t)) = Gen.bodyAt0 t := by
    unfold defs₀; rw [Defs.onTc_tc]
  rw [h]
  exact kernel_eq (F := F) ..

/-- The body at a point: from what the pipeline hands it to what the proof data say it leaves. -/
theorem body_wp (c : Dev nD) (t : Fin cfg0.N) :
    iprop(Pipeline.ΦA spec0 c ∗ (dats m 0 c).owesAt () t.castSucc ∗ HeldIns c (bufs t) (ins m c t) ∗ Any (F := F) c (bufs t).a13)
      ⊢ wp frame (wpE (defs₀ (F := F)) Variants.none (c : Thread nD τ) none) Set.univ (kernel (F := F) (bufs t)) (fun _ =>
        iprop(Pipeline.ΦA spec0 c ∗ (dats m 0 c).owesAt () t.castSucc ∗ HeldIns c (bufs t) (ins m c t)
          ∗ Held (c : Thread nD τ) (bufs t).a13 (ins m c t).out)) := by
  unfold Pipeline.ΦA
  rw [scratch_eq (F := F) c t]
  iintro ⟨⟨⟨H14, H15, H16, H17, H18, H19, H20, H21, H22, H23, H24, H25, H26⟩, Hp⟩, Ho, HI, H13⟩
  iapply (kernel_wp Variants.none c none Set.univ (bufs t) (ins m c t)) $$ [HI H20 H13 H14 H15 H16 H17 H18 H19 H21 H22 H23 H24 H25 H26]
  · unfold Scratch
    isplitl [HI]; · iexact HI
    isplitl [H20]; · iexact H20
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H21]; · iexact H21
    isplitl [H22]; · iexact H22
    isplitl [H23]; · iexact H23
    isplitl [H24]; · iexact H24
    isplitl [H25]; · iexact H25
    iexact H26
  unfold Scratch
  iintro ⟨HI, H20, H13, H14, H15, H16, H17, H18, H19, H21, H22, H23, H24, H25, H26⟩
  isplitl [Hp H14 H15 H16 H17 H18 H19 H20 H21 H22 H23 H24 H25 H26]
  · isplitr [Hp]
    · isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      iexact H26
    · iexact Hp
  isplitl [Ho]; · iexact Ho
  isplitl [HI]; · iexact HI
  iexact H13

/-- The pipeline's obligation about its body. -/
theorem body_obligation (c : Dev nD) : BodyObligation (dats (F := F) m 0 c) (defs₀ (F := F)) Variants.none () Set.univ := fun t => by
  rw [bigSep_W0, bigSep_W0, body_row]
  refine triple_restated (body_wp m c t) rfl ?_ (fun _ => ?_)
  · show iprop(Pipeline.ΦA spec0 c ∗ (dats m 0 c).owesAt () t.castSucc ∗ _) ⊢ _
    unfold HeldIns Any
    simp only [before0, before1, before2, before3, before4, before5, before6, before7, before8, before9, before10, before11, before12]
    iintro ⟨HΦ, Ho, ⟨%_, H0⟩, ⟨%_, H1⟩, ⟨%_, H2⟩, ⟨%_, H3⟩, ⟨%_, H4⟩, ⟨%_, H5⟩, ⟨%_, H6⟩, ⟨%_, H7⟩, ⟨%_, H8⟩, ⟨%_, H9⟩, ⟨%_, H10⟩, ⟨%_, H11⟩, ⟨%_, H12⟩, ⟨%d, H13⟩⟩
    simp only [← owns_held]
    isplitl [HΦ]; · iexact HΦ
    isplitl [Ho]; · iexact Ho
    isplitr [H13]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    · iexists _; iexact H13
  · show _ ⊢ iprop(Pipeline.ΦA spec0 c ∗ (dats m 0 c).owesAt () t.castSucc ∗ _)
    unfold HeldIns
    simp only [← owns_held]
    iintro ⟨HΦ, Ho, ⟨H0, H1, H2, H3, H4, H5, H6, H7, H8, H9, H10, H11, H12⟩, H13⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

set_option backward.isDefEq.respectTransparency.types false in
/-- The launch: every execution ends, with the pipeline's arrays at what the proof data say and every semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

/-- The output array at the end of the launch. -/
theorem final_out (c : Dev nD) : (dats m 0 c).arrAt 13 cfg0.N
    = (win0_13.blk t0_0).view.write (Elt F) (V m c (Pipeline.arrRef spec0 13)) (ins m c t0_0).out Finset.univ := by
  rw [show cfg0.N = (t0_0).val + 1 from rfl, (dats m 0 c).arrAt_succ 13 t0_0, if_pos (flush0_13 t0_0)]
  rfl

end Cert.KernelIdeal.Scan
-- ==== Proof.Launch.Same.lean ====
/-
  The kernel read at the floats' bits is the same program as its idealization: part by part, each printed part is the program named for it.
-/
module

public import proofs.«01_k».proof.Proof.Launch.Body
public import proofs.«01_k».proof.Proof.Gen.Kernel

@[expose] public section

noncomputable section

namespace Cert.KernelIdeal.Scan

open Idealize.ShloMosaic Idealize.SL.Sem
open Cert.KernelIdeal.Gen

variable {F : FTy → Type} [FloatOps F]

section
variable (arg0 : Memref sig .tc .vmem S8x256x384 .f32) (harg0 : arg0.IsWhole)
    (arg1 : Memref sig .tc .vmem S384x768 .f32) (harg1 : arg1.IsWhole)
    (arg2 : Memref sig .tc .vmem S384x768 .f32) (harg2 : arg2.IsWhole)
    (arg3 : Memref sig .tc .vmem S768x24 .f32) (harg3 : arg3.IsWhole)
    (arg4 : Memref sig .tc .vmem S768x16 .f32) (harg4 : arg4.IsWhole)
    (arg5 : Memref sig .tc .vmem S768x16 .f32) (harg5 : arg5.IsWhole)
    (arg6 : Memref sig .tc .vmem S24x768 .f32) (harg6 : arg6.IsWhole)
    (arg7 : Memref sig .tc .vmem S1x768 .f32) (harg7 : arg7.IsWhole)
    (arg8 : Memref sig .tc .vmem S16x768 .f32) (harg8 : arg8.IsWhole)
    (arg9 : Memref sig .tc .vmem S1x768 .f32) (harg9 : arg9.IsWhole)
    (arg10 : Memref sig .tc .vmem S768x384 .f32) (harg10 : arg10.IsWhole)
    (arg11 : Memref sig .tc .vmem S1x384 .f32) (harg11 : arg11.IsWhole)
    (arg12 : Memref sig .tc .vmem S1x384 .f32) (harg12 : arg12.IsWhole)
    (arg13 : Memref sig .tc .vmem S8x256x384 .f32) (harg13 : arg13.IsWhole)
    (arg14 : Memref sig .tc .vmem S256x768 .f32) (harg14 : arg14.IsWhole)
    (arg15 : Memref sig .tc .vmem S256x768 .f32) (harg15 : arg15.IsWhole)
    (arg16 : Memref sig .tc .vmem S256x768 .f32) (harg16 : arg16.IsWhole)
    (arg17 : Memref sig .tc .vmem S256x16 .f32) (harg17 : arg17.IsWhole)
    (arg18 : Memref sig .tc .vmem S256x16 .f32) (harg18 : arg18.IsWhole)
    (arg19 : Memref sig .tc .vmem S256x1x16 .f32) (harg19 : arg19.IsWhole)
    (arg20 : Memref sig .tc .vmem S16x768 .f32) (harg20 : arg20.IsWhole)
    (arg21 : Memref sig .tc .vmem S256x16x768 .f32) (harg21 : arg21.IsWhole)
    (arg22 : Memref sig .tc .vmem S256x16x768 .f32) (harg22 : arg22.IsWhole)
    (arg23 : Memref sig .tc .vmem S256x768 .f32) (harg23 : arg23.IsWhole)
    (arg24 : Memref sig .tc .vmem S256x768 .f32) (harg24 : arg24.IsWhole)
    (arg25 : Memref sig .tc .vmem S256x768 .f32) (harg25 : arg25.IsWhole)
    (arg26 : Memref sig .tc .vmem S256x768 .f32) (harg26 : arg26.IsWhole)

/-- The printed projections are `project`. -/
theorem bits_part309_eq (t : Fin k0_t1_loop.trips) : Cert.Kernel.k0_part309 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 0#32 1#32 t = project ⟨arg0, arg1, arg2, arg3, arg4, arg5, arg6, arg7, arg8, arg9, arg10, arg11, arg12, arg13, arg14, arg15, arg16, arg17, arg18, arg19, arg20, arg21, arg22, arg23, arg24, arg25, arg26⟩ t := rfl

set_option maxRecDepth 1000000 in
set_option maxHeartbeats 1000000 in
/-- The printed scan is `scan`. -/
theorem bits_part310_eq (d : FVec F S256x24 .f32) : Cert.Kernel.k0_part310 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 d = scan ⟨arg0, arg1, arg2, arg3, arg4, arg5, arg6, arg7, arg8, arg9, arg10, arg11, arg12, arg13, arg14, arg15, arg16, arg17, arg18, arg19, arg20, arg21, arg22, arg23, arg24, arg25, arg26⟩ d := rfl

/-- The printed gate and normalisation are `finish`. -/
theorem bits_part311_eq (x : FVec F S256x384 .f32) (y2 y3 : FVec F S256x768 .f32) (y0 : Vec F S256x768 .f32) :
    Cert.Kernel.k0_part311 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x y2 y3 y0 = finish ⟨arg0, arg1, arg2, arg3, arg4, arg5, arg6, arg7, arg8, arg9, arg10, arg11, arg12, arg13, arg14, arg15, arg16, arg17, arg18, arg19, arg20, arg21, arg22, arg23, arg24, arg25, arg26⟩ x y2 y3 y0 := rfl

/-- The printed kernel is `kernel`. -/
theorem bits_kernel_eq : Cert.Kernel.cc0_vssm_quad_scan (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 = kernel ⟨arg0, arg1, arg2, arg3, arg4, arg5, arg6, arg7, arg8, arg9, arg10, arg11, arg12, arg13, arg14, arg15, arg16, arg17, arg18, arg19, arg20, arg21, arg22, arg23, arg24, arg25, arg26⟩ := by
  unfold Cert.Kernel.cc0_vssm_quad_scan
  simp only [bits_part309_eq, bits_part310_eq, bits_part311_eq]
  rfl

end

/-- The two tables of bodies are one. -/
theorem rows_same : Cert.Kernel.defs₀ (F := F) = Cert.KernelIdeal.defs₀ (F := F) := by
  unfold Cert.Kernel.defs₀ Cert.KernelIdeal.defs₀
  refine congrArg (fun x => Defs.onTc x) ?_
  funext l x
  rcases l with ⟨l, hl⟩
  rcases l with _ | l
  · exact (bits_kernel_eq (F := F) ..).trans (kernel_eq (F := F) ..).symm
  · exact absurd hl (Nat.not_lt.2 (Nat.le_add_left _ _))

/-- The two tables of bodies with the pipelines' are one. -/
theorem defs_same : Cert.Kernel.defs (F := F) = Cert.KernelIdeal.defs (F := F) :=
  congrArg (fun d => Pipeline.defs (Cert.KernelIdeal.pcfgs (F := F)) d) rows_same

/-- The two main programs are one. -/
theorem main_same : Cert.Kernel.main (F := F) = Cert.KernelIdeal.main (F := F) := rfl

end Cert.KernelIdeal.Scan
-- ==== Proof.Launch.Frame.lean ====
/-
  The frames of the two kernels: each ends with its arguments unchanged and every semaphore counter at zero. The kernel's program and its
  idealization's are one program, read at two arithmetics, so the frame is proved once, at any arithmetic.
-/
module

public import proofs.«01_k».proof.Proof.Launch.Body
public import proofs.«01_k».proof.Proof.Launch.Same
public import proofs.«01_k».proof.Defs

@[expose] public section

noncomputable section

namespace Cert.KernelIdeal.Scan

open Idealize.ShloMosaic Idealize.ShloMosaic.TcCoe
open Idealize.SL Idealize.SL.Sem
open Cert.KernelIdeal.Gen

variable {F : FTy → Type} [FloatOps F] (m : (ℓ : Loc nD τ sig) → Buf (Elt F) ℓ) (ρ : Dev nD → PrngReg)

/-- At any arithmetic: the arguments end as they were and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0) :=
  θ_run_with_sems (frame_of m ρ (dats m) fun _ _ => rfl) (run_main m ρ)

/-- The frame of the idealized kernel. -/
theorem quiescent_ideal : Cert.quiescent_KernelIdeal := fun m ρ _ => frame (F := Ideal) m ρ

/-- The frame of the kernel at the floats' bits. -/
theorem quiescent_bits : Cert.quiescent_Kernel := fun m ρ _ => by
  have h := frame (F := Bits) m ρ
  rw [← defs_same, ← main_same] at h
  exact h

end Cert.KernelIdeal.Scan
-- ==== Proof.Ref.Frame.lean ====
/-
  The reference's run leaves its arguments as they were: no stretch of it writes one.
-/
module

public import proofs.«01_k».proof.Proof.Gen.ReferenceIdeal.Run
public import Idealize.ShloMosaic.Lib.StableHlo.RunRead
public import proofs.«01_k».proof.Defs

@[expose] public section

noncomputable section

namespace Cert.ReferenceIdeal.Value

open Idealize.ShloMosaic Idealize.ShloMosaic.StableHlo
open Cert.ReferenceIdeal Cert.ReferenceIdeal.Gen

variable {F : FTy → Type} [FloatOps F]

/-- The arguments of @main. -/
def arguments : List (Ref sig .tc) := [main_arg0, main_arg1, main_arg2, main_arg3, main_arg4, main_arg5, main_arg6, main_arg7, main_arg8, main_arg9]

/-- Two contents agree at the arguments. -/
def Same (V W : Valuation τ sig (Elt F)) : Prop := ∀ r ∈ arguments, V (Proc.devRef .tc r) = W (Proc.devRef .tc r)

theorem Same.trans {U V W : Valuation τ sig (Elt F)} (h : Same U V) (h' : Same V W) : Same U W := fun r hr => (h r hr).trans (h' r hr)

variable (V : Valuation τ sig (Elt F))

/-- The stretches before the loop write no argument. -/
theorem same_pre : Same (afterL preI V) V := by
  intro r hr
  simp only [arguments, List.mem_cons, List.not_mem_nil, or_false] at hr
  rcases hr with rfl | rfl | rfl | rfl | rfl | rfl | rfl | rfl | rfl | rfl <;> (simp only [afterL]; after_reads_simp)

/-- A trip writes no argument. -/
theorem same_trip : Same (afterL bodyI (after condOps V)) V := by
  intro r hr
  simp only [arguments, List.mem_cons, List.not_mem_nil, or_false] at hr
  rcases hr with rfl | rfl | rfl | rfl | rfl | rfl | rfl | rfl | rfl | rfl <;> (simp only [afterL]; after_reads_simp)

/-- The stretches after the loop write no argument. -/
theorem same_post : Same (afterL postI (after condOps V)) V := by
  intro r hr
  simp only [arguments, List.mem_cons, List.not_mem_nil, or_false] at hr
  rcases hr with rfl | rfl | rfl | rfl | rfl | rfl | rfl | rfl | rfl | rfl <;> (simp only [afterL]; after_reads_simp)

/-- No trip writes an argument. -/
theorem same_trips (W : Dev nD → Valuation τ sig (Elt F)) (c : Dev nD) : ∀ k, Same (atTrip condOps bodyI W k c) (W c)
  | 0 => fun _ _ => rfl
  | k + 1 => (same_trip _).trans (same_trips W c k)

variable (m : (ℓ : Loc nD τ sig) → Buf (Elt F) ℓ)

/-- The run ends with its arguments as they were. -/
theorem same_run (n : ℕ) (c : Dev nD) : Same (finalContents condOps preI bodyI postI n m c) (launchContents m c) :=
  (same_post _).trans ((same_trips _ c n).trans (same_pre _))

/-- No semaphore is declared, so any two tables of counters are equal. -/
theorem no_sems (s s' : GSem nD τ sig → ℤ) : s = s' := by
  funext g
  rcases g with ⟨t, q⟩
  cases q <;> rename_i i <;> exact absurd i.2 (Nat.not_lt_zero _)

/-- The frame of the reference. -/
theorem quiescent : Cert.quiescent_ReferenceIdeal := fun m ρ _ => (θ_run _ _ _).mono (fun r h =>
  ⟨fun c => by
    have k : ∀ b ∈ arguments, (Proc.devRef .tc b : DevRef τ sig).isScoped = false → r.2.mem ((c.tc : Thread nD τ).loc b) = m ((c.tc : Thread nD τ).loc b) :=
      fun b hb hs => (h c b hs).trans (same_run m 256 c b hb)
    refine ⟨?_, ?_, ?_, ?_, ?_, ?_, ?_, ?_, ?_, ?_⟩ <;> exact k _ (by decide) rfl,
   no_sems _ _⟩) (run_fold (F := Ideal) m ρ)

end Cert.ReferenceIdeal.Value
-- ==== Proof.Model.Scalar.lean ====
/-
  The result over the extended reals, entry by entry, as a function of the arguments: what both programs are shown to compute. A direction visits the
  positions of a sequence in some order; `r p` is the position it visits at step `p`.
-/
module

public import Idealize.ShloMosaic.Lib.Pointwise

@[expose] public section

noncomputable section

namespace Cert.Model

open Idealize.ShloMosaic

/-- The arguments: the sequences, and the weights in the order the programs take them. -/
@[ext] structure Args where
  x : (⟨3, ![8, 256, 384]⟩ : Shape).Idx → EReal
  win : (⟨2, ![1536, 384]⟩ : Shape).Idx → EReal
  alog : (⟨2, ![768, 16]⟩ : Shape).Idx → EReal
  wx : (⟨2, ![56, 768]⟩ : Shape).Idx → EReal
  wdt : (⟨2, ![768, 24]⟩ : Shape).Idx → EReal
  bdt : (⟨1, ![768]⟩ : Shape).Idx → EReal
  dskip : (⟨1, ![768]⟩ : Shape).Idx → EReal
  wout : (⟨2, ![384, 768]⟩ : Shape).Idx → EReal
  gamma : (⟨1, ![384]⟩ : Shape).Idx → EReal
  beta : (⟨1, ![384]⟩ : Shape).Idx → EReal

/-- The softplus. -/
def plus (z : EReal) : EReal := max z 0 + Ideal.log1p (Ideal.exp (-FloatOps.absf (F := Ideal) (φ := .f32) z))

/-- The position whose image is read in column-major order of a sixteen by sixteen grid. -/
def swap (i : Fin 256) : Fin 256 := ⟨i.val % 16 * 16 + i.val / 16, by omega⟩

/-- The four orders of visiting: forwards, backwards, and both over the transposed grid. -/
def fwd (p : ℕ) : Fin 256 := Fin.ofNat 256 p
@[inherit_doc fwd] def bwd (p : ℕ) : Fin 256 := Fin.ofNat 256 (255 - p)
@[inherit_doc fwd] def fwdT (p : ℕ) : Fin 256 := swap (fwd p)
@[inherit_doc fwd] def bwdT (p : ℕ) : Fin 256 := swap (bwd p)

namespace Args

variable (P : Args)

/-- The projected sequences. -/
def inner (b : Fin 8) (l : Fin 256) (e : Fin 768) : EReal := ∑ k : Fin 384, P.x (ix3 b l k) * P.win (ix2 ⟨e.val, by omega⟩ k)
/-- The gate. -/
def gate (b : Fin 8) (l : Fin 256) (e : Fin 768) : EReal := ∑ k : Fin 384, P.x (ix3 b l k) * P.win (ix2 ⟨768 + e.val, by omega⟩ k)
/-- The low-rank projection of a position's channels. -/
def low (v : Fin 768 → EReal) (i : Fin 56) : EReal := ∑ e : Fin 768, v e * P.wx (ix2 i e)
/-- The step size of a channel. -/
def size (v : Fin 768 → EReal) (e : Fin 768) : EReal :=
  plus (∑ r : Fin 24, P.low v ⟨r.val, by omega⟩ * P.wdt (ix2 e r) + P.bdt (ix1 e))
/-- The decay of a channel's state. -/
def decay (v : Fin 768 → EReal) (e : Fin 768) (n : Fin 16) : EReal := Ideal.exp (P.size v e * -Ideal.exp (P.alog (ix2 e n)))
/-- The input to a channel's state. -/
def drive (v : Fin 768 → EReal) (e : Fin 768) (n : Fin 16) : EReal := P.size v e * P.low v ⟨24 + n.val, by omega⟩ * v e
/-- The readout weights. -/
def coef (v : Fin 768 → EReal) (n : Fin 16) : EReal := P.low v ⟨40 + n.val, by omega⟩
/-- The state before step `p`, where step `q` reads the channels `v q`. -/
def state (v : ℕ → Fin 768 → EReal) : ℕ → Fin 768 → Fin 16 → EReal
  | 0, _, _ => 0
  | p + 1, e, n => P.decay (v p) e n * state v p e n + P.drive (v p) e n
/-- What step `p` contributes. -/
def contrib (v : ℕ → Fin 768 → EReal) (p : ℕ) (e : Fin 768) : EReal := ∑ n : Fin 16, P.state v (p + 1) e n * P.coef (v p) n
/-- What step `p` of the direction `r` contributes. -/
def dir (b : Fin 8) (r : ℕ → Fin 256) (p : ℕ) (e : Fin 768) : EReal := P.contrib (fun q => P.inner b (r q)) p e
/-- The four directions at a position. -/
def four (b : Fin 8) (l : Fin 256) (e : Fin 768) : EReal :=
  P.dir b fwd l.val e + P.dir b bwd (255 - l.val) e + P.dir b fwdT (swap l).val e + P.dir b bwdT (255 - (swap l).val) e
/-- The gated mean of the four directions, with the skip term. -/
def mixed (b : Fin 8) (l : Fin 256) (e : Fin 768) : EReal :=
  P.four b l e * Ideal.ofBits .f32 0x3E800000#32 * (P.gate b l e * Ideal.div 1 (1 + Ideal.exp (-P.gate b l e))) + P.inner b l e * P.dskip (ix1 e)
/-- The output projection with the residual. -/
def proj (b : Fin 8) (l : Fin 256) (i : Fin 384) : EReal := ∑ e : Fin 768, P.mixed b l e * P.wout (ix2 i e) + P.x (ix3 b l i)
/-- A position's mean. -/
def mean (b : Fin 8) (l : Fin 256) : EReal := Ideal.div (∑ i : Fin 384, P.proj b l i) (Ideal.ofBits .f32 0x43C00000#32)
/-- A position's variance. -/
def var (b : Fin 8) (l : Fin 256) : EReal :=
  Ideal.div (∑ i : Fin 384, (P.proj b l i - P.mean b l) * (P.proj b l i - P.mean b l)) (Ideal.ofBits .f32 0x43C00000#32)
/-- The result. -/
def out (b : Fin 8) (l : Fin 256) (i : Fin 384) : EReal :=
  (P.proj b l i - P.mean b l) * Ideal.rsqrt (P.var b l + Ideal.ofBits .f32 0x3727C5AC#32) * P.gamma (ix1 i) + P.beta (ix1 i)

end Args

end Cert.Model
-- ==== Proof.Model.Kernel.lean ====
/-
  The kernel's output, entry by entry: from the arrays its host prepares, the kernel computes the model's result.
-/
module

public import proofs.«01_k».proof.Proof.Batch.Value
public import proofs.«01_k».proof.Proof.Model.Scalar

@[expose] public section

noncomputable section

namespace Cert.KernelIdeal.Scan

open Idealize.ShloMosaic Idealize.SL.Sem
open Cert.KernelIdeal.Gen Cert.Mem Cert.Model

/-- The arrays the host prepares from the arguments. -/
def prepared (P : Args) : Ins Ideal where
  x := P.x
  wx := transpose S384x768 [1, 0] (extractStridedSlice S768x384 ![0, 0] P.win slices_S1536x384_S768x384_0_0) transposes_S768x384_S384x768_1_0
  wz := transpose S384x768 [1, 0] (extractStridedSlice S768x384 ![768, 0] P.win slices_S1536x384_S768x384_768_0) transposes_S768x384_S384x768_1_0
  wd := transpose S768x24 [1, 0] (extractStridedSlice S24x768 ![0, 0] P.wx slices_S56x768_S24x768_0_0) transposes_S24x768_S768x24_1_0
  wb := transpose S768x16 [1, 0] (extractStridedSlice S16x768 ![24, 0] P.wx slices_S56x768_S16x768_24_0) transposes_S16x768_S768x16_1_0
  wc := transpose S768x16 [1, 0] (extractStridedSlice S16x768 ![40, 0] P.wx slices_S56x768_S16x768_40_0) transposes_S16x768_S768x16_1_0
  wt := transpose S24x768 [1, 0] P.wdt transposes_S768x24_S24x768_1_0
  bt := shapeCast S1x768 P.bdt shapeCasts_S768_S1x768
  al := transpose S16x768 [1, 0] P.alog transposes_S768x16_S16x768_1_0
  dk := shapeCast S1x768 P.dskip shapeCasts_S768_S1x768
  wo := transpose S768x384 [1, 0] P.wout transposes_S384x768_S768x384_1_0
  g := shapeCast S1x384 P.gamma shapeCasts_S384_S1x384
  be := shapeCast S1x384 P.beta shapeCasts_S384_S1x384

/-! ### The readings of the kernel's parts at any inputs -/

section
variable (I : Ins Ideal) (t : Fin 8) (l : Fin 256) (e : Fin 768) (n : Fin 16)

theorem seq_apply (k : Fin 384) : I.seq t (ix2 l k) = I.x (ix3 t l k) := by
  pointwise [Ins.seq, seqOf]
  refine congrArg I.x (funext fun a => Fin.ext ?_)
  fin_cases a
  · show t.val + 0 = t.val
    omega
  · rfl
  · rfl

theorem proj_apply (w : Vec Ideal S384x768 .f32) : proj (I.seq t) w (ix2 l e) = ∑ k, I.x (ix3 t l k) * w (ix2 k e) := by
  pointwise [proj]
  exact Finset.sum_congr rfl fun k _ => by rw [seq_apply]

/-- Sixteen consecutive rows, read at the row of them that is row `l`. -/
theorem rows2_row {α : Type} {A : ℕ} (x : (⟨2, ![256, A]⟩ : Shape).Idx → α) (e : Fin A) (h : 16 * (l.val / 16) + 16 ≤ 256) :
    rows2 x (16 * (l.val / 16)) 16 h (ix2 (Fin.ofNat 16 l.val) e) = x (ix2 l e) := by
  refine congrArg x (funext fun a => Fin.ext ?_)
  fin_cases a
  · show 16 * (l.val / 16) + l.val % 16 = l.val
    omega
  · rfl

theorem A_apply : I.A t (ix3 l n e) = Ideal.exp (plus (I.dts t (ix2 l e)) * -Ideal.exp (I.al (ix2 n e))) := by
  pointwise [Ins.A, decays, decay, softplus, Ins.rates, negExp]
  simp only [plus, zero_sub]
  rw [← rows2_row l (I.dts t) e (by omega)]

theorem B_apply : I.B t (ix3 l n e) = plus (I.dts t (ix2 l e)) * I.inner t (ix2 l e) * I.inW t (ix2 l n) := by
  pointwise [Ins.B, drives, drive, softplus]
  simp only [plus, zero_sub]
  rw [← rows2_row l (I.dts t) e (by omega), ← rows2_row l (I.inner t) e (by omega), ← rows2_row l (I.inW t) n (by omega)]

theorem C_apply : I.C t (ix3 l 0 n) = I.outW t (ix2 l n) := by
  pointwise [Ins.C, readoutOf]

theorem advance_apply (a b : Vec Ideal S1x16x768 .f32) (h : State Ideal) : advance a b h (ix2 n e) = a (ix3 0 n e) * h (ix2 n e) + b (ix3 0 n e) := by
  pointwise [advance]

theorem readout_apply (w : Vec Ideal S1x1x16 .f32) (h : State Ideal) : readout w h (ix2 0 e) = ∑ k, w (ix3 0 0 k) * h (ix2 k e) := by
  pointwise [readout]

theorem untr_apply (y : Vec Ideal S256x768 .f32) : untr (F := Ideal) y (ix2 l e) = y (ix2 (swap l) e) := by
  pointwise [untr]
  rfl

end

/-! ### The readings at the prepared arrays -/

section
variable (P : Args) (t : Fin 8) (l : Fin 256) (e : Fin 768) (n : Fin 16)

theorem proj_inner : proj ((prepared P).seq t) (prepared P).wx (ix2 l e) = P.inner t l e := by
  rw [proj_apply, Args.inner]
  refine Finset.sum_congr rfl fun k _ => ?_
  pointwise [prepared]

theorem inner_eq : (prepared P).inner t (ix2 l e) = P.inner t l e := by
  rw [← proj_inner]
  pointwise [Ins.inner]

theorem gate_eq : (prepared P).gate t (ix2 l e) = P.gate t l e := by
  have h : (prepared P).gate t (ix2 l e) = proj ((prepared P).seq t) (prepared P).wz (ix2 l e) := by pointwise [Ins.gate]
  rw [h, proj_apply, Args.gate]
  refine Finset.sum_congr rfl fun k _ => ?_
  pointwise [prepared]

theorem inW_eq : (prepared P).inW t (ix2 l n) = P.low (P.inner t l) ⟨24 + n.val, by omega⟩ := by
  pointwise [Ins.inW, toState, Args.low]
  refine Finset.sum_congr rfl fun k _ => ?_
  rw [proj_inner]
  pointwise [prepared]

theorem outW_eq : (prepared P).outW t (ix2 l n) = P.coef (P.inner t l) n := by
  pointwise [Ins.outW, toState, Args.coef, Args.low]
  refine Finset.sum_congr rfl fun k _ => ?_
  rw [proj_inner]
  pointwise [prepared]

theorem size_eq : plus ((prepared P).dts t (ix2 l e)) = P.size (P.inner t l) e := by
  rw [Args.size]
  refine congrArg plus ?_
  pointwise [Ins.dts, dtOf, dtLow, Args.low]
  simp only [proj_inner]
  pointwise [prepared]

theorem A_eq : (prepared P).A t (ix3 l n e) = P.decay (P.inner t l) e n := by
  rw [A_apply, size_eq, Args.decay]
  pointwise [prepared]

theorem B_eq : (prepared P).B t (ix3 l n e) = P.drive (P.inner t l) e n := by
  rw [B_apply, size_eq, inner_eq, inW_eq, Args.drive, mul_right_comm]

theorem states_eq (r : ℕ → Fin 256) : ∀ p, states ((prepared P).A t) ((prepared P).B t) r p (ix2 n e) = P.state (fun q => P.inner t (r q)) p e n
  | 0 => by
    pointwise [states, init, Args.state]
  | p + 1 => by
    show advance _ _ _ (ix2 n e) = _
    rw [advance_apply, states_eq r p, Args.state]
    show (prepared P).A t (ix3 (r p) n e) * _ + (prepared P).B t (ix3 (r p) n e) = _
    rw [A_eq, B_eq]

theorem y_eq (r : ℕ → Fin 256) (pos : Fin 256 → ℕ) : (prepared P).y t r pos (ix2 l e) = P.dir t r (pos l) e := by
  show readout _ _ (ix2 0 e) = _
  rw [readout_apply, Args.dir, Args.contrib]
  refine Finset.sum_congr rfl fun k _ => ?_
  show (prepared P).C t (ix3 (r (pos l)) 0 k) * _ = _
  rw [C_apply, outW_eq, states_eq, mul_comm]
  rfl

theorem mean_eq : (prepared P).mean t (ix2 l e) = P.mixed t l e := by
  pointwise [Ins.mean, gated]
  rw [untr_apply, untr_apply, y_eq, y_eq, y_eq, y_eq, gate_eq, inner_eq, Args.mixed, zero_sub]
  pointwise [prepared]
  rfl

theorem proj_eq (i : Fin 384) : outProj ((prepared P).mean t) (prepared P).wo ((prepared P).seq t) (ix2 l i) = P.proj t l i := by
  pointwise [outProj]
  simp only [mean_eq, seq_apply, Args.proj]
  pointwise [prepared]

theorem outB_eq (i : Fin 384) : (prepared P).outB t (ix3 0 l i) = P.out t l i := by
  pointwise [Ins.outB, scaled, normed, centred, rowMean]
  simp only [proj_eq, Args.out, Args.var, Args.mean]
  pointwise [prepared]

/-- The kernel computes the model's result. -/
theorem out_eq (i : Fin 384) : (prepared P).out (ix3 t l i) = P.out t l i := outB_eq P t l i

end

end Cert.KernelIdeal.Scan
-- ==== Proof.Launch.Value.lean ====
/-
  The launch's output as a function of the arguments: the arrays the host prepares, each handed to the kernel whole, and the output array written whole.
-/
module

public import proofs.«01_k».proof.Proof.Launch.Body
public import proofs.«01_k».proof.Proof.Model.Kernel
public import Idealize.ShloMosaic.Lib.StableHlo.RunRead

@[expose] public section

noncomputable section

namespace Cert.KernelIdeal.Scan

open Idealize.ShloMosaic Idealize.ShloMosaic.TcCoe
open Idealize.SL Idealize.SL.Sem
open Cert.KernelIdeal.Gen Cert.Model

variable (m : (ℓ : Loc nD τ sig) → Buf (Elt Ideal) ℓ) (c : Dev nD)

/-- The arguments a core holds. -/
def args : Args where
  x := m ((c.tc : Thread nD τ).loc main_arg0)
  win := m ((c.tc : Thread nD τ).loc main_arg1)
  alog := m ((c.tc : Thread nD τ).loc main_arg2)
  wx := m ((c.tc : Thread nD τ).loc main_arg3)
  wdt := m ((c.tc : Thread nD τ).loc main_arg4)
  bdt := m ((c.tc : Thread nD τ).loc main_arg5)
  dskip := m ((c.tc : Thread nD τ).loc main_arg6)
  wout := m ((c.tc : Thread nD τ).loc main_arg7)
  gamma := m ((c.tc : Thread nD τ).loc main_arg8)
  beta := m ((c.tc : Thread nD τ).loc main_arg9)

/-! ### A window that is a whole array reads it whole -/

theorem block0 : iblk m c 0 t0_0 = V m c main_arg0 := by
  funext j
  refine congrArg (V m c main_arg0) (funext fun a => Fin.ext ?_)
  fin_cases a <;> exact (Nat.zero_add _).trans (Nat.one_mul _)
theorem block1 : iblk m c 1 t0_0 = V m c main_call0_v1 := by
  funext j
  refine congrArg (V m c main_call0_v1) (funext fun a => Fin.ext ?_)
  fin_cases a <;> exact (Nat.zero_add _).trans (Nat.one_mul _)
theorem block2 : iblk m c 2 t0_0 = V m c main_call0_v3 := by
  funext j
  refine congrArg (V m c main_call0_v3) (funext fun a => Fin.ext ?_)
  fin_cases a <;> exact (Nat.zero_add _).trans (Nat.one_mul _)
theorem block3 : iblk m c 3 t0_0 = V m c main_call0_v5 := by
  funext j
  refine congrArg (V m c main_call0_v5) (funext fun a => Fin.ext ?_)
  fin_cases a <;> exact (Nat.zero_add _).trans (Nat.one_mul _)
theorem block4 : iblk m c 4 t0_0 = V m c main_call0_v7 := by
  funext j
  refine congrArg (V m c main_call0_v7) (funext fun a => Fin.ext ?_)
  fin_cases a <;> exact (Nat.zero_add _).trans (Nat.one_mul _)
theorem block5 : iblk m c 5 t0_0 = V m c main_call0_v9 := by
  funext j
  refine congrArg (V m c main_call0_v9) (funext fun a => Fin.ext ?_)
  fin_cases a <;> exact (Nat.zero_add _).trans (Nat.one_mul _)
theorem block6 : iblk m c 6 t0_0 = V m c main_call0_v10 := by
  funext j
  refine congrArg (V m c main_call0_v10) (funext fun a => Fin.ext ?_)
  fin_cases a <;> exact (Nat.zero_add _).trans (Nat.one_mul _)
theorem block7 : iblk m c 7 t0_0 = V m c main_call0_v13 := by
  funext j
  refine congrArg (V m c main_call0_v13) (funext fun a => Fin.ext ?_)
  fin_cases a <;> exact (Nat.zero_add _).trans (Nat.one_mul _)
theorem block8 : iblk m c 8 t0_0 = V m c main_call0_v11 := by
  funext j
  refine congrArg (V m c main_call0_v11) (funext fun a => Fin.ext ?_)
  fin_cases a <;> exact (Nat.zero_add _).trans (Nat.one_mul _)
theorem block9 : iblk m c 9 t0_0 = V m c main_call0_v14 := by
  funext j
  refine congrArg (V m c main_call0_v14) (funext fun a => Fin.ext ?_)
  fin_cases a <;> exact (Nat.zero_add _).trans (Nat.one_mul _)
theorem block10 : iblk m c 10 t0_0 = V m c main_call0_v12 := by
  funext j
  refine congrArg (V m c main_call0_v12) (funext fun a => Fin.ext ?_)
  fin_cases a <;> exact (Nat.zero_add _).trans (Nat.one_mul _)
theorem block11 : iblk m c 11 t0_0 = V m c main_call0_v15 := by
  funext j
  refine congrArg (V m c main_call0_v15) (funext fun a => Fin.ext ?_)
  fin_cases a <;> exact (Nat.zero_add _).trans (Nat.one_mul _)
theorem block12 : iblk m c 12 t0_0 = V m c main_call0_v16 := by
  funext j
  refine congrArg (V m c main_call0_v16) (funext fun a => Fin.ext ?_)
  fin_cases a <;> exact (Nat.zero_add _).trans (Nat.one_mul _)

/-- The output window writes the whole array. -/
theorem out_write (c0 : Buf (Elt Ideal) ((c.tc : Thread nD τ).loc main_v0)) (w : Vec Ideal S8x256x384 .f32) :
    (win0_13.blk t0_0).view.write (Elt Ideal) c0 w Finset.univ = w := by
  funext j
  have e : (win0_13.blk t0_0).view.emb j = j := by
    refine funext fun a => Fin.ext ?_
    fin_cases a <;> exact (Nat.zero_add _).trans (Nat.one_mul _)
  conv_lhs => rw [← e]
  exact View.write_emb_of_mem _ _ (Finset.mem_univ j)

/-! ### What the host prepares -/

theorem prep0 : V m c main_arg0 = (prepared (args m c)).x := by
  show StableHlo.after hostOps0 _ _ = _
  after_reads_simp
  rfl
theorem prep1 : V m c main_call0_v1 = (prepared (args m c)).wx := by
  show StableHlo.after hostOps0 _ _ = _
  after_reads_simp
  rfl
theorem prep2 : V m c main_call0_v3 = (prepared (args m c)).wz := by
  show StableHlo.after hostOps0 _ _ = _
  after_reads_simp
  rfl
theorem prep3 : V m c main_call0_v5 = (prepared (args m c)).wd := by
  show StableHlo.after hostOps0 _ _ = _
  after_reads_simp
  rfl
theorem prep4 : V m c main_call0_v7 = (prepared (args m c)).wb := by
  show StableHlo.after hostOps0 _ _ = _
  after_reads_simp
  rfl
theorem prep5 : V m c main_call0_v9 = (prepared (args m c)).wc := by
  show StableHlo.after hostOps0 _ _ = _
  after_reads_simp
  rfl
theorem prep6 : V m c main_call0_v10 = (prepared (args m c)).wt := by
  show StableHlo.after hostOps0 _ _ = _
  after_reads_simp
  rfl
theorem prep7 : V m c main_call0_v13 = (prepared (args m c)).bt := by
  show StableHlo.after hostOps0 _ _ = _
  after_reads_simp
  rfl
theorem prep8 : V m c main_call0_v11 = (prepared (args m c)).al := by
  show StableHlo.after hostOps0 _ _ = _
  after_reads_simp
  rfl
theorem prep9 : V m c main_call0_v14 = (prepared (args m c)).dk := by
  show StableHlo.after hostOps0 _ _ = _
  after_reads_simp
  rfl
theorem prep10 : V m c main_call0_v12 = (prepared (args m c)).wo := by
  show StableHlo.after hostOps0 _ _ = _
  after_reads_simp
  rfl
theorem prep11 : V m c main_call0_v15 = (prepared (args m c)).g := by
  show StableHlo.after hostOps0 _ _ = _
  after_reads_simp
  rfl
theorem prep12 : V m c main_call0_v16 = (prepared (args m c)).be := by
  show StableHlo.after hostOps0 _ _ = _
  after_reads_simp
  rfl

/-- The kernel is handed the prepared arguments. -/
theorem ins_eq : ins m c t0_0 = prepared (args m c) := by
  unfold ins
  rw [block0, block1, block2, block3, block4, block5, block6, block7, block8, block9, block10, block11, block12,
    prep0, prep1, prep2, prep3, prep4, prep5, prep6, prep7, prep8, prep9, prep10, prep11, prep12]

/-- The result as an array. -/
def outcome (P : Args) : Vec Ideal S8x256x384 .f32 := fun j => P.out (j 0) (j 1) (j 2)

/-- The output array after the launch, entry by entry. -/
theorem final_value : (dats m 0 c).arrAt 13 cfg0.N = outcome (args m c) := by
  rw [final_out, ins_eq]
  refine (out_write c _ _).trans (funext fun j => ?_)
  rw [eq_ix3 j]
  exact out_eq _ _ _ _

end Cert.KernelIdeal.Scan
-- ==== Proof.Ref.Value.lean ====
/-
  What the reference computes, as functions of its arguments: the sequences in four orders, the tables of decays and drives, the readout, and from the
  loop's outputs the gated, projected and normalised result.
-/
module

public import proofs.«01_k».proof.Proof.Gen.ReferenceIdeal.Run
public import Idealize.ShloMosaic.Lib.StableHlo.RunRead

@[expose] public section

noncomputable section

namespace Cert.ReferenceIdeal.Value

open Idealize.ShloMosaic Idealize.ShloMosaic.StableHlo
open Cert.ReferenceIdeal Cert.ReferenceIdeal.Gen

variable {F : FTy → Type} [FloatOps F]

/-! ### Before the loop -/

/-- The joint projection of the inputs. -/
def xz (a0 : Vec F S8x256x384 .f32) (a1 : Vec F S1536x384 .f32) : Vec F S8x256x1536 .f32 :=
  Host.dotGeneral dot_S8x256x384_S384x1536_S8x256x1536_2_0_01_1_n_n none a0 (transpose S384x1536 [1, 0] a1 transposes_S1536x384_S384x1536_1_0)

/-- Its first half: the sequences scanned. -/
def xin (a0 : Vec F S8x256x384 .f32) (a1 : Vec F S1536x384 .f32) : Vec F S8x256x768 .f32 :=
  extractStridedSlice S8x256x768 ![0, 0, 0] (xz a0 a1) slices_S8x256x1536_S8x256x768_0_0_0

/-- Its second half: the gate. -/
def zin (a0 : Vec F S8x256x384 .f32) (a1 : Vec F S1536x384 .f32) : Vec F S8x256x768 .f32 :=
  extractStridedSlice S8x256x768 ![0, 0, 768] (xz a0 a1) slices_S8x256x1536_S8x256x768_0_0_768

/-- The sequences with the grid's rows and columns exchanged. -/
def cols (x : Vec F S8x256x768 .f32) : Vec F S8x256x768 .f32 :=
  shapeCast S8x256x768 (transpose S8x16x16x768 [0, 2, 1, 3] (shapeCast S8x16x16x768 x shapeCasts_S8x256x768_S8x16x16x768)
    transposes_S8x16x16x768_S8x16x16x768_0_2_1_3) shapeCasts_S8x16x16x768_S8x256x768

/-- The sequences in four orders. -/
def four (x : Vec F S8x256x768 .f32) : Vec F S32x256x768 .f32 :=
  concatenate S32x256x768 0 [⟨S8x256x768, x⟩, ⟨S8x256x768, Host.reverse [1] x⟩, ⟨S8x256x768, cols x⟩, ⟨S8x256x768, Host.reverse [1] (cols x)⟩]
    concatenates_S8x256x768_S8x256x768_S8x256x768_S8x256x768_S32x256x768_d0

/-- The low-rank projection of the four orders: step sizes, input and output coefficients. -/
def low (xs : Vec F S32x256x768 .f32) (a3 : Vec F S56x768 .f32) : Vec F S32x256x56 .f32 :=
  Host.dotGeneral dot_S32x256x768_S768x56_S32x256x56_2_0_01_1_n_n none xs (transpose S768x56 [1, 0] a3 transposes_S56x768_S768x56_1_0)

/-- The step sizes before the softplus. -/
def pre (l : Vec F S32x256x56 .f32) (a4 : Vec F S768x24 .f32) (a5 : Vec F S768 .f32) : Vec F S32x256x768 .f32 :=
  addf (Host.dotGeneral dot_S32x256x24_S24x768_S32x256x768_2_0_01_1_n_n none
      (extractStridedSlice S32x256x24 ![0, 0, 0] l slices_S32x256x56_S32x256x24_0_0_0) (transpose S24x768 [1, 0] a4 transposes_S768x24_S24x768_1_0))
    (broadcastInDim S32x256x768 ![0, 1, 2] bcast_S1x1x768_S32x256x768_0_1_2 (broadcastInDim S1x1x768 ![2] bcast_S768_S1x1x768_2 a5))

/-- The softplus. -/
def plus (v : Vec F S32x256x768 .f32) : Vec F S32x256x768 .f32 :=
  let z : Vec F S32x256x768 .f32 := broadcastInDim S32x256x768 ![] bcast_S_S32x256x768 (constant S_ .f32 0x00000000#32)
  select (cmpf .une (subf v z) (subf v z)) (addf v z)
    (addf (maximumf v z) (Host.log1p (Host.exp (Host.negf (Host.absf (subf v z))))))

/-- The decays. -/
def decays (dt : Vec F S32x256x768 .f32) (a2 : Vec F S768x16 .f32) : Vec F S256x32x768x16 .f32 :=
  transpose S256x32x768x16 [1, 0, 2, 3] (Host.exp (mulf
    (broadcastInDim S32x256x768x16 ![0, 1, 2, 3] bcast_S32x256x768x1_S32x256x768x16_0_1_2_3
      (broadcastInDim S32x256x768x1 ![0, 1, 2] bcast_S32x256x768_S32x256x768x1_0_1_2 dt))
    (broadcastInDim S32x256x768x16 ![0, 1, 2, 3] bcast_S1x1x768x16_S32x256x768x16_0_1_2_3
      (broadcastInDim S1x1x768x16 ![2, 3] bcast_S768x16_S1x1x768x16_2_3 (Host.negf (Host.exp a2)))))) transposes_S32x256x768x16_S256x32x768x16_1_0_2_3

/-- The drives. -/
def drives (dt xs : Vec F S32x256x768 .f32) (l : Vec F S32x256x56 .f32) : Vec F S256x32x768x16 .f32 :=
  transpose S256x32x768x16 [1, 0, 2, 3] (mulf (mulf
    (broadcastInDim S32x256x768x16 ![0, 1, 2, 3] bcast_S32x256x768x1_S32x256x768x16_0_1_2_3
      (broadcastInDim S32x256x768x1 ![0, 1, 2] bcast_S32x256x768_S32x256x768x1_0_1_2 dt))
    (broadcastInDim S32x256x768x16 ![0, 1, 2, 3] bcast_S32x256x1x16_S32x256x768x16_0_1_2_3
      (broadcastInDim S32x256x1x16 ![0, 1, 3] bcast_S32x256x16_S32x256x1x16_0_1_3
        (extractStridedSlice S32x256x16 ![0, 0, 24] l slices_S32x256x56_S32x256x16_0_0_24))))
    (broadcastInDim S32x256x768x16 ![0, 1, 2, 3] bcast_S32x256x768x1_S32x256x768x16_0_1_2_3
      (broadcastInDim S32x256x768x1 ![0, 1, 2] bcast_S32x256x768_S32x256x768x1_0_1_2 xs))) transposes_S32x256x768x16_S256x32x768x16_1_0_2_3

/-- The readout coefficients. -/
def coefs (l : Vec F S32x256x56 .f32) : Vec F S256x32x16 .f32 :=
  transpose S256x32x16 [1, 0, 2] (extractStridedSlice S32x256x16 ![0, 0, 40] l slices_S32x256x56_S32x256x16_0_0_40) transposes_S32x256x16_S256x32x16_1_0_2

/-! ### What the stretches before the loop leave -/

section
variable (V : Valuation τ sig (Elt F))

theorem at0_v2 : after hostOps0 V (no_index (Proc.devRef .tc main_v2)) = xin (V (Proc.devRef .tc main_arg0)) (V (Proc.devRef .tc main_arg1)) := by
  after_reads_simp; rfl
theorem at0_v3 : after hostOps0 V (no_index (Proc.devRef .tc main_v3)) = zin (V (Proc.devRef .tc main_arg0)) (V (Proc.devRef .tc main_arg1)) := by
  after_reads_simp; rfl
theorem at0_v6 : after hostOps0 V (no_index (Proc.devRef .tc main_v6)) = cols (xin (V (Proc.devRef .tc main_arg0)) (V (Proc.devRef .tc main_arg1))) := by
  after_reads_simp; rfl
theorem at3_v9 (h7 : V (Proc.devRef .tc main_v7) = Host.reverse [1] (V (Proc.devRef .tc main_v2)))
    (h6 : V (Proc.devRef .tc main_v6) = cols (V (Proc.devRef .tc main_v2)))
    (h8 : V (Proc.devRef .tc main_v8) = Host.reverse [1] (cols (V (Proc.devRef .tc main_v2)))) :
    after hostOps0_3 V (no_index (Proc.devRef .tc main_v9)) = four (V (Proc.devRef .tc main_v2)) := by
  after_reads_simp
  unfold four
  rw [← h8, ← h7, ← h6]
  rfl
theorem at3_v19 (h7 : V (Proc.devRef .tc main_v7) = Host.reverse [1] (V (Proc.devRef .tc main_v2)))
    (h6 : V (Proc.devRef .tc main_v6) = cols (V (Proc.devRef .tc main_v2)))
    (h8 : V (Proc.devRef .tc main_v8) = Host.reverse [1] (cols (V (Proc.devRef .tc main_v2)))) :
    after hostOps0_3 V (no_index (Proc.devRef .tc main_v19))
      = pre (low (four (V (Proc.devRef .tc main_v2))) (V (Proc.devRef .tc main_arg3))) (V (Proc.devRef .tc main_arg4)) (V (Proc.devRef .tc main_arg5)) := by
  rw [← at3_v9 V h7 h6 h8]
  after_reads_simp
  rfl
theorem at4_v20 : after hostOps0_4 V (no_index (Proc.devRef .tc main_v20)) = plus (V (Proc.devRef .tc main_v19)) := by
  after_reads_simp; rfl
theorem at5_v42_0 : after hostOps0_5 V (no_index (Proc.devRef .tc main_v42_0)) = decays (V (Proc.devRef .tc main_v20)) (V (Proc.devRef .tc main_arg2)) := by
  after_reads_simp; rfl
end

end Cert.ReferenceIdeal.Value
-- ==== Proof.Ref.Final.lean ====
/-
  What the reference does with the loop's readouts: the four orders put back in place and averaged, gated, projected and normalised.
-/
module

public import proofs.«01_k».proof.Proof.Ref.Value
public import proofs.«01_k».proof.Proof.Ref.Frame

@[expose] public section

noncomputable section

namespace Cert.ReferenceIdeal.Value

open Idealize.ShloMosaic Idealize.ShloMosaic.StableHlo
open Cert.ReferenceIdeal Cert.ReferenceIdeal.Gen

variable {F : FTy → Type} [FloatOps F]

/-- The readouts by sequence, and the part of them from one order on. -/
def bySeq (y : Vec F S256x32x768 .f32) : Vec F S32x256x768 .f32 := transpose S32x256x768 [1, 0, 2] y transposes_S256x32x768_S32x256x768_1_0_2
@[inherit_doc bySeq] def part0 (y : Vec F S256x32x768 .f32) : Vec F S8x256x768 .f32 := extractStridedSlice S8x256x768 ![0, 0, 0] (bySeq y) slices_S32x256x768_S8x256x768_0_0_0
@[inherit_doc bySeq] def part1 (y : Vec F S256x32x768 .f32) : Vec F S8x256x768 .f32 := extractStridedSlice S8x256x768 ![8, 0, 0] (bySeq y) slices_S32x256x768_S8x256x768_8_0_0
@[inherit_doc bySeq] def part2 (y : Vec F S256x32x768 .f32) : Vec F S8x256x768 .f32 := extractStridedSlice S8x256x768 ![16, 0, 0] (bySeq y) slices_S32x256x768_S8x256x768_16_0_0
@[inherit_doc bySeq] def part3 (y : Vec F S256x32x768 .f32) : Vec F S8x256x768 .f32 := extractStridedSlice S8x256x768 ![24, 0, 0] (bySeq y) slices_S32x256x768_S8x256x768_24_0_0

/-- The four orders put back in place and added. -/
def together (y : Vec F S256x32x768 .f32) : Vec F S8x256x768 .f32 :=
  addf (addf (addf (part0 y) (Host.reverse [1] (part1 y))) (cols (part2 y))) (cols (Host.reverse [1] (part3 y)))

/-- Their average. -/
def average (y : Vec F S256x32x768 .f32) : Vec F S8x256x768 .f32 :=
  mulf (together y) (broadcastInDim S8x256x768 ![] bcast_S_S8x256x768 (constant S_ .f32 0x3E800000#32))

/-- The gate's activation. -/
def silu (z : Vec F S8x256x768 .f32) : Vec F S8x256x768 .f32 :=
  mulf z (Host.divf (broadcastInDim S8x256x768 ![] bcast_S_S8x256x768 (constant S_ .f32 0x3F800000#32))
    (addf (broadcastInDim S8x256x768 ![] bcast_S_S8x256x768 (constant S_ .f32 0x3F800000#32)) (Host.exp (Host.negf z))))

/-- The gated average with the skip term. -/
def mixed (y : Vec F S256x32x768 .f32) (x z : Vec F S8x256x768 .f32) (a6 : Vec F S768 .f32) : Vec F S8x256x768 .f32 :=
  addf (mulf (average y) (silu z)) (mulf x (broadcastInDim S8x256x768 ![0, 1, 2] bcast_S1x1x768_S8x256x768_0_1_2 (broadcastInDim S1x1x768 ![2] bcast_S768_S1x1x768_2 a6)))

/-- The output projection with the residual. -/
def proj (u : Vec F S8x256x768 .f32) (a7 : Vec F S384x768 .f32) (a0 : Vec F S8x256x384 .f32) : Vec F S8x256x384 .f32 :=
  addf (Host.dotGeneral dot_S8x256x768_S768x384_S8x256x384_2_0_01_1_n_n none u (transpose S768x384 [1, 0] a7 transposes_S384x768_S768x384_1_0)) a0

/-- The sum over the channels. -/
def total (v : Vec F S8x256x384 .f32) : Vec F S8x256x1 .f32 :=
  broadcastInDim S8x256x1 ![0, 1] bcast_S8x256_S8x256x1_0_1 (Host.reduceAdd v (constant S_ .f32 0x00000000#32) reducesTo_S8x256x384_S8x256_d2 h_S_)

/-- The mean over the channels. -/
def mean (v : Vec F S8x256x384 .f32) : Vec F S8x256x1 .f32 :=
  Host.divf (total v) (broadcastInDim S8x256x1 ![] bcast_S_S8x256x1 (constant S_ .f32 0x43C00000#32))

/-- The distance from the mean. -/
def centred (v : Vec F S8x256x384 .f32) : Vec F S8x256x384 .f32 := subf v (broadcastInDim S8x256x384 ![0, 1, 2] bcast_S8x256x1_S8x256x384_0_1_2 (mean v))

/-- The number of channels, less the correction of zero. -/
def count : Vec F S_ .f32 := subf (constant S_ .f32 0x43C00000#32) (sitofp .f32 (constantI S_ 32 0#32))

/-- The variance over the channels, where there are any. -/
def var (v : Vec F S8x256x384 .f32) : Vec F S8x256x1 .f32 :=
  select (broadcastInDim S8x256x1 ![] bcast_S_S8x256x1 (cmpf .ogt (count (F := F)) (constant S_ .f32 0x00000000#32)))
    (Host.divf (total (mulf (centred v) (centred v))) (broadcastInDim S8x256x1 ![] bcast_S_S8x256x1 count))
    (broadcastInDim S8x256x1 ![] bcast_S_S8x256x1 (constant S_ .f32 0x7FC00000#32))

/-- The normalised result. -/
def norm (v : Vec F S8x256x384 .f32) (a8 a9 : Vec F S384 .f32) : Vec F S8x256x384 .f32 :=
  addf (mulf (mulf (centred v) (broadcastInDim S8x256x384 ![0, 1, 2] bcast_S8x256x1_S8x256x384_0_1_2
      (Host.rsqrt (addf (var v) (broadcastInDim S8x256x1 ![] bcast_S_S8x256x1 (constant S_ .f32 0x3727C5AC#32))))))
    (broadcastInDim S8x256x384 ![0, 1, 2] bcast_S1x1x384_S8x256x384_0_1_2 (broadcastInDim S1x1x384 ![2] bcast_S384_S1x1x384_2 a8)))
    (broadcastInDim S8x256x384 ![0, 1, 2] bcast_S1x1x384_S8x256x384_0_1_2 (broadcastInDim S1x1x384 ![2] bcast_S384_S1x1x384_2 a9))

section
variable (V : Valuation τ sig (Elt F))

/-- The contents once the four orders are averaged and the gate made. -/
def gated : Valuation τ sig (Elt F) :=
  after hostOps0_11 (after hostOps0_10 (after hostOps0_9 (after hostOps0_8 (after hostOps0_7 (after hostOps0_6 V)))))

theorem gated_v60 : gated V (Proc.devRef .tc main_v60) = average (V (Proc.devRef .tc main_v42_5)) := by
  unfold gated; after_reads_simp; rfl
theorem gated_v61 : gated V (Proc.devRef .tc main_v61) = silu (V (Proc.devRef .tc main_v3)) := by
  unfold gated; after_reads_simp; rfl
theorem gated_v2 : gated V (Proc.devRef .tc main_v2) = V (Proc.devRef .tc main_v2) := by
  unfold gated; after_reads_simp
theorem gated_arg (r : Ref sig .tc) (hr : r ∈ arguments) : gated V (Proc.devRef .tc r) = V (Proc.devRef .tc r) := by
  simp only [arguments, List.mem_cons, List.not_mem_nil, or_false] at hr
  rcases hr with rfl | rfl | rfl | rfl | rfl | rfl | rfl | rfl | rfl | rfl <;> (unfold gated; after_reads_simp)

/-- The projected array. -/
def projOf : Vec F S8x256x384 .f32 :=
  proj (mixed (V (Proc.devRef .tc main_v42_5)) (V (Proc.devRef .tc main_v2)) (V (Proc.devRef .tc main_v3)) (V (Proc.devRef .tc main_arg6))) (V (Proc.devRef .tc main_arg7)) (V (Proc.devRef .tc main_arg0))

/-- The contents once it is made. -/
def outward : Valuation τ sig (Elt F) := after hostOps0_12 (gated V)

theorem outward_v69 : outward V (Proc.devRef .tc main_v69) = projOf V := by
  unfold projOf mixed
  rw [← gated_v60, ← gated_v61, ← gated_v2 V, ← gated_arg V main_arg6 (by decide), ← gated_arg V main_arg7 (by decide),
    ← gated_arg V main_arg0 (by decide)]
  unfold outward; after_reads_simp; rfl
theorem outward_v73 : outward V (Proc.devRef .tc main_v73) = mean (projOf V) := by
  rw [← outward_v69]
  unfold outward; after_reads_simp; rfl
theorem outward_c_4 : outward V (Proc.devRef .tc main_c_4) = constantI S_ 32 0#32 := by
  unfold outward; after_reads_simp; try rfl
theorem outward_arg (r : Ref sig .tc) (hr : r ∈ arguments) : outward V (Proc.devRef .tc r) = V (Proc.devRef .tc r) := by
  rw [← gated_arg V r hr]
  simp only [arguments, List.mem_cons, List.not_mem_nil, or_false] at hr
  rcases hr with rfl | rfl | rfl | rfl | rfl | rfl | rfl | rfl | rfl | rfl <;> (unfold outward; after_reads_simp)

/-- The contents once the variance is made. -/
def varied : Valuation τ sig (Elt F) := after hostOps0_13 (outward V)

theorem varied_v74 : varied V (Proc.devRef .tc main_v74) = var (projOf V) := by
  unfold var count
  rw [← outward_v69, ← outward_c_4 V]
  unfold varied; after_reads_simp; rfl
theorem varied_v69 : varied V (Proc.devRef .tc main_v69) = projOf V := by
  rw [← outward_v69]; unfold varied; after_reads_simp
theorem varied_v73 : varied V (Proc.devRef .tc main_v73) = mean (projOf V) := by
  rw [← outward_v73]; unfold varied; after_reads_simp
theorem varied_arg (r : Ref sig .tc) (hr : r ∈ arguments) : varied V (Proc.devRef .tc r) = V (Proc.devRef .tc r) := by
  rw [← outward_arg V r hr]
  simp only [arguments, List.mem_cons, List.not_mem_nil, or_false] at hr
  rcases hr with rfl | rfl | rfl | rfl | rfl | rfl | rfl | rfl | rfl | rfl <;> (unfold varied; after_reads_simp)

/-- The result, from the contents after the loop. -/
theorem final_v87 : afterL postI V (Proc.devRef .tc main_v87) = norm (projOf V) (V (Proc.devRef .tc main_arg8)) (V (Proc.devRef .tc main_arg9)) := by
  rw [show afterL postI V = after hostOps0_14 (varied V) from rfl]
  unfold norm centred
  rw [← varied_v74, ← varied_v73, ← varied_v69, ← varied_arg V main_arg8 (by decide), ← varied_arg V main_arg9 (by decide)]
  after_reads_simp
end

end Cert.ReferenceIdeal.Value
-- ==== Proof.Ref.Entry.lean ====
/-
  The contents the reference's loop starts from, as functions of the arguments.
-/
module

public import proofs.«01_k».proof.Proof.Ref.Value
public import proofs.«01_k».proof.Proof.Ref.Frame

@[expose] public section

noncomputable section

namespace Cert.ReferenceIdeal.Value

open Idealize.ShloMosaic Idealize.ShloMosaic.StableHlo
open Cert.ReferenceIdeal Cert.ReferenceIdeal.Gen

variable {F : FTy → Type} [FloatOps F]

section
variable (V : Valuation τ sig (Elt F))

/-- The contents once the four orders are made. -/
def orders : Valuation τ sig (Elt F) := after hostOps0_2 (after hostOps0_1 (after hostOps0 V))

theorem orders_v2 : orders V (Proc.devRef .tc main_v2) = xin (V (Proc.devRef .tc main_arg0)) (V (Proc.devRef .tc main_arg1)) := by
  unfold orders; after_reads_simp; rfl
theorem orders_v3 : orders V (Proc.devRef .tc main_v3) = zin (V (Proc.devRef .tc main_arg0)) (V (Proc.devRef .tc main_arg1)) := by
  unfold orders; after_reads_simp; rfl
theorem orders_v6 : orders V (Proc.devRef .tc main_v6) = cols (orders V (Proc.devRef .tc main_v2)) := by
  unfold orders; after_reads_simp; rfl
theorem orders_v7 : orders V (Proc.devRef .tc main_v7) = Host.reverse [1] (orders V (Proc.devRef .tc main_v2)) := by
  unfold orders; after_reads_simp; try rfl
theorem orders_v8 : orders V (Proc.devRef .tc main_v8) = Host.reverse [1] (cols (orders V (Proc.devRef .tc main_v2))) := by
  unfold orders; after_reads_simp; rfl
theorem orders_arg (r : Ref sig .tc) (hr : r ∈ arguments) : orders V (Proc.devRef .tc r) = V (Proc.devRef .tc r) := by
  simp only [arguments, List.mem_cons, List.not_mem_nil, or_false] at hr
  rcases hr with rfl | rfl | rfl | rfl | rfl | rfl | rfl | rfl | rfl | rfl <;> (unfold orders; after_reads_simp)

/-- The four orders of the arguments. -/
def seqs : Vec F S32x256x768 .f32 := four (xin (V (Proc.devRef .tc main_arg0)) (V (Proc.devRef .tc main_arg1)))
/-- Their low-rank projection. -/
def lows : Vec F S32x256x56 .f32 := low (seqs V) (V (Proc.devRef .tc main_arg3))
/-- Their step sizes. -/
def sizes : Vec F S32x256x768 .f32 := plus (pre (lows V) (V (Proc.devRef .tc main_arg4)) (V (Proc.devRef .tc main_arg5)))

/-- The contents once the four orders are projected. -/
def projected : Valuation τ sig (Elt F) := after hostOps0_3 (orders V)

theorem projected_v9 : projected V (Proc.devRef .tc main_v9) = seqs V := by
  unfold projected
  rw [at3_v9 _ (orders_v7 V) (orders_v6 V) (orders_v8 V), orders_v2]; rfl
theorem projected_v11 : projected V (Proc.devRef .tc main_v11) = lows V := by
  unfold lows
  rw [← projected_v9, ← orders_arg V main_arg3 (by decide)]
  unfold projected
  after_reads_simp; rfl
theorem projected_v13 : projected V (Proc.devRef .tc main_v13) = extractStridedSlice S32x256x16 ![0, 0, 24] (lows V) slices_S32x256x56_S32x256x16_0_0_24 := by
  rw [← projected_v11]
  unfold projected
  after_reads_simp; try rfl
theorem projected_v14 : projected V (Proc.devRef .tc main_v14) = extractStridedSlice S32x256x16 ![0, 0, 40] (lows V) slices_S32x256x56_S32x256x16_0_0_40 := by
  rw [← projected_v11]
  unfold projected
  after_reads_simp; try rfl
theorem projected_v19 : projected V (Proc.devRef .tc main_v19) = pre (lows V) (V (Proc.devRef .tc main_arg4)) (V (Proc.devRef .tc main_arg5)) := by
  unfold projected
  rw [at3_v19 _ (orders_v7 V) (orders_v6 V) (orders_v8 V), orders_v2, orders_arg V main_arg3 (by decide), orders_arg V main_arg4 (by decide),
    orders_arg V main_arg5 (by decide)]; rfl
theorem projected_arg2 : projected V (Proc.devRef .tc main_arg2) = V (Proc.devRef .tc main_arg2) := by
  rw [← orders_arg V main_arg2 (by decide)]
  unfold projected
  after_reads_simp

/-- The contents once the step sizes are made. -/
def sized : Valuation τ sig (Elt F) := after hostOps0_4 (projected V)

theorem sized_v20 : sized V (Proc.devRef .tc main_v20) = sizes V := by
  unfold sized
  rw [at4_v20, projected_v19]; rfl
theorem sized_v9 : sized V (Proc.devRef .tc main_v9) = seqs V := by
  rw [← projected_v9]; unfold sized; after_reads_simp
theorem sized_v13 : sized V (Proc.devRef .tc main_v13) = extractStridedSlice S32x256x16 ![0, 0, 24] (lows V) slices_S32x256x56_S32x256x16_0_0_24 := by
  rw [← projected_v13]; unfold sized; after_reads_simp
theorem sized_v14 : sized V (Proc.devRef .tc main_v14) = extractStridedSlice S32x256x16 ![0, 0, 40] (lows V) slices_S32x256x56_S32x256x16_0_0_40 := by
  rw [← projected_v14]; unfold sized; after_reads_simp
theorem sized_arg2 : sized V (Proc.devRef .tc main_arg2) = V (Proc.devRef .tc main_arg2) := by
  rw [← projected_arg2 V]; unfold sized; after_reads_simp

/-- The loop starts from the contents after every stretch before it. -/
theorem entry_eq : afterL preI V = after hostOps0_5 (sized V) := rfl

theorem entry_v42_0 : afterL preI V (Proc.devRef .tc main_v42_0) = decays (sizes V) (V (Proc.devRef .tc main_arg2)) := by
  rw [entry_eq, at5_v42_0, sized_v20, sized_arg2]
theorem entry_v42_1 : afterL preI V (Proc.devRef .tc main_v42_1) = drives (sizes V) (seqs V) (lows V) := by
  rw [entry_eq]
  unfold drives
  rw [← sized_v20, ← sized_v9, ← sized_v13]
  after_reads_simp; rfl
theorem entry_v42_2 : afterL preI V (Proc.devRef .tc main_v42_2) = coefs (lows V) := by
  rw [entry_eq]
  unfold coefs
  rw [← sized_v14]
  after_reads_simp; try rfl
theorem entry_v42_4 : afterL preI V (Proc.devRef .tc main_v42_4) = broadcastInDim S32x768x16 ![] bcast_S_S32x768x16 (constant S_ .f32 0x00000000#32) := by
  rw [entry_eq]
  after_reads_simp; try rfl
theorem entry_v2 : afterL preI V (Proc.devRef .tc main_v2) = xin (V (Proc.devRef .tc main_arg0)) (V (Proc.devRef .tc main_arg1)) := by
  rw [← orders_v2]
  simp only [entry_eq, sized, projected]
  after_reads_simp
theorem entry_v3 : afterL preI V (Proc.devRef .tc main_v3) = zin (V (Proc.devRef .tc main_arg0)) (V (Proc.devRef .tc main_arg1)) := by
  rw [← orders_v3]
  simp only [entry_eq, sized, projected]
  after_reads_simp
end

/-! ### What a trip of the loop keeps -/

section
variable (V : Valuation τ sig (Elt F))

/-- The buffers no trip writes that are read in the loop or after it. -/
def kept : List (Ref sig .tc) := [main_v42_0, main_v42_1, main_v42_2, main_v2, main_v3]

theorem kept_trip (r : Ref sig .tc) (hr : r ∈ kept) : afterL bodyI (after condOps V) (Proc.devRef .tc r) = V (Proc.devRef .tc r) := by
  simp only [kept, List.mem_cons, List.not_mem_nil, or_false] at hr
  rcases hr with rfl | rfl | rfl | rfl | rfl <;> (simp only [afterL]; after_reads_simp)

theorem kept_trips (W : Dev nD → Valuation τ sig (Elt F)) (c : Dev nD) (r : Ref sig .tc) (hr : r ∈ kept) :
    ∀ k, atTrip condOps bodyI W k c (Proc.devRef .tc r) = W c (Proc.devRef .tc r)
  | 0 => rfl
  | k + 1 => (kept_trip _ r hr).trans (kept_trips W c r hr k)
end

end Cert.ReferenceIdeal.Value
-- ==== Proof.Ref.Trip.lean ====
/-
  One trip of the reference's loop, entry by entry: the new states from the old, and the row of readouts it writes.
-/
module

public import proofs.«01_k».proof.Proof.Ref.Entry
public import Idealize.ShloMosaic.Lib.Pointwise
public import Idealize.ShloMosaic.Lib.WordCmp

@[expose] public section

noncomputable section

namespace Cert.ReferenceIdeal.Value

open Idealize.ShloMosaic Idealize.ShloMosaic.StableHlo
open Cert.ReferenceIdeal Cert.ReferenceIdeal.Gen

/-- The buffers the loop carries, as arrays: the tables of decays, drives and readout weights, the states, and the readouts. -/
def decayTab (V : Valuation τ sig (Elt Ideal)) : Vec Ideal S256x32x768x16 .f32 := V (Proc.devRef .tc main_v42_0)
@[inherit_doc decayTab] def driveTab (V : Valuation τ sig (Elt Ideal)) : Vec Ideal S256x32x768x16 .f32 := V (Proc.devRef .tc main_v42_1)
@[inherit_doc decayTab] def coefTab (V : Valuation τ sig (Elt Ideal)) : Vec Ideal S256x32x16 .f32 := V (Proc.devRef .tc main_v42_2)
@[inherit_doc decayTab] def stateTab (V : Valuation τ sig (Elt Ideal)) : Vec Ideal S32x768x16 .f32 := V (Proc.devRef .tc main_v42_4)
@[inherit_doc decayTab] def readTab (V : Valuation τ sig (Elt Ideal)) : Vec Ideal S256x32x768 .f32 := V (Proc.devRef .tc main_v42_5)

theorem fits4 (k : ℕ) (hk : k < 256) : S256x32x768x16.Slices ![k, 0, 0, 0] S1x32x768x16 :=
  ⟨rfl, fun a => by fin_cases a <;> simp <;> omega⟩
theorem fits3 (k : ℕ) (hk : k < 256) : S256x32x16.Slices ![k, 0, 0] S1x32x16 :=
  ⟨rfl, fun a => by fin_cases a <;> simp <;> omega⟩
theorem fitsU (k : ℕ) (hk : k < 256) : S256x32x768.Slices ![k, 0, 0] S1x32x768 :=
  ⟨rfl, fun a => by fin_cases a <;> simp <;> omega⟩

/-- The row of a table at the loop's counter. -/
theorem slab4 (x : Vec Ideal S256x32x768x16 .f32) (start : Fin 4 → Int) (k : ℕ) (hk : k < 256)
    (hs : ∀ a, start a = ((![k, 0, 0, 0] a : ℕ) : Int)) (b : Fin 32) (e : Fin 768) (n : Fin 16) :
    shapeCast S32x768x16 (Host.dynamicSlice S1x32x768x16 x start sliceFits_S256x32x768x16_S1x32x768x16) shapeCasts_S1x32x768x16_S32x768x16 (ix3 b e n)
      = x (ix4 ⟨k, hk⟩ b e n) := by
  rw [WordCmp.dynamicSlice_eq_extract _ _ _ _ ![k, 0, 0, 0] (fits4 k hk) hs]
  pointwise

/-- The row of readout weights at the loop's counter. -/
theorem slab3 (x : Vec Ideal S256x32x16 .f32) (start : Fin 3 → Int) (k : ℕ) (hk : k < 256)
    (hs : ∀ a, start a = ((![k, 0, 0] a : ℕ) : Int)) (b : Fin 32) (n : Fin 16) :
    shapeCast S32x16 (Host.dynamicSlice S1x32x16 x start sliceFits_S256x32x16_S1x32x16) shapeCasts_S1x32x16_S32x16 (ix2 b n)
      = x (ix3 ⟨k, hk⟩ b n) := by
  rw [WordCmp.dynamicSlice_eq_extract _ _ _ _ ![k, 0, 0] (fits3 k hk) hs]
  pointwise

/-- The readouts with one row replaced. -/
theorem update3 (y : Vec Ideal S256x32x768 .f32) (u : Vec Ideal S32x768 .f32) (start : Fin 3 → Int) (k : ℕ) (hk : k < 256)
    (hs : ∀ a, start a = ((![k, 0, 0] a : ℕ) : Int)) (p : Fin 256) (b : Fin 32) (e : Fin 768) :
    Host.dynamicUpdateSlice y (broadcastInDim S1x32x768 ![1, 2] bcast_S32x768_S1x32x768_1_2 u) start updateFits_S256x32x768_S1x32x768 (ix3 p b e)
      = if p.val = k then u (ix2 b e) else y (ix3 p b e) := by
  rw [WordCmp.dynamicUpdateSlice_eq_update _ _ _ _ ![k, 0, 0] (fitsU k hk) hs]
  pointwise
  split_ifs with h1 h2 h2
  · rfl
  · omega
  · omega
  · rfl

section
variable (V : Valuation τ sig (Elt Ideal)) (k : ℕ) (hk : k < 256) (hc : V (Proc.devRef .tc main_v42_3) = fun _ => Scf.iv 0#32 1#32 k)
include hc

theorem start4 (hk : k < 256) (a : Fin 4) :
    ((![V (Proc.devRef .tc main_v42_3), constantI S_ 32 0#32, constantI S_ 32 0#32, constantI S_ 32 0#32] : Fin 4 → (⟨S_, .i32⟩ : BufTy).Contents (Elt Ideal)) a
      (Shape.Idx.first h_S_)).toInt = ((![k, 0, 0, 0] a : ℕ) : Int) := by
  rw [hc]
  fin_cases a
  · exact (Scf.toInt_iv (ub := 256#32) (by decide) (k := k) (by rw [show Scf.trips 0#32 256#32 1#32 = 256 by decide]; omega)).trans (by simp)
  all_goals rfl

theorem start3 (hk : k < 256) (a : Fin 3) :
    ((![V (Proc.devRef .tc main_v42_3), constantI S_ 32 0#32, constantI S_ 32 0#32] : Fin 3 → (⟨S_, .i32⟩ : BufTy).Contents (Elt Ideal)) a
      (Shape.Idx.first h_S_)).toInt = ((![k, 0, 0] a : ℕ) : Int) := by
  rw [hc]
  fin_cases a
  · exact (Scf.toInt_iv (ub := 256#32) (by decide) (k := k) (by rw [show Scf.trips 0#32 256#32 1#32 = 256 by decide]; omega)).trans (by simp)
  all_goals rfl

/-- The states after a trip. -/
theorem trip_state (b : Fin 32) (e : Fin 768) (n : Fin 16) :
    stateTab (afterL bodyI V) (ix3 b e n)
      = decayTab V (ix4 ⟨k, hk⟩ b e n)
          * stateTab V (ix3 b e n)
        + driveTab V (ix4 ⟨k, hk⟩ b e n) := by
  unfold stateTab decayTab driveTab
  rw [trip_main_v42_4]
  show res_main_while0b_v92 V (ix3 b e n) = _
  unfold res_main_while0b_v92
  rw [← slab4 (V (Proc.devRef .tc main_v42_0)) _ k hk (start4 V k hc hk) b e n, ← slab4 (V (Proc.devRef .tc main_v42_1)) _ k hk (start4 V k hc hk) b e n]
  rfl

/-- The readouts after a trip. -/
theorem trip_readout (p : Fin 256) (b : Fin 32) (e : Fin 768) :
    readTab (afterL bodyI V) (ix3 p b e)
      = if p.val = k then ∑ n : Fin 16, stateTab (afterL bodyI V) (ix3 b e n)
            * coefTab V (ix3 ⟨k, hk⟩ b n)
        else readTab V (ix3 p b e) := by
  unfold readTab stateTab coefTab
  rw [trip_main_v42_5, trip_main_v42_4]
  refine (update3 _ _ _ k hk (start3 V k hc hk) p b e).trans (if_congr Iff.rfl ?_ rfl)
  simp only [← slab3 (V (Proc.devRef .tc main_v42_2)) _ k hk (start3 V k hc hk)]
  generalize res_main_while0b_v92 V = r
  generalize shapeCast S32x16 _ _ = q
  show Host.dotGeneral dot_S32x768x16_S32x16_S32x768_2_1_1_n_0_0 none r q (ix2 b e) = _
  pointwise
  rfl

end

end Cert.ReferenceIdeal.Value
-- ==== Proof.Model.Rows.lean ====
/-
  The sequences the reference scans, their decays, drives and readout weights, entry by entry.
-/
module

public import proofs.«01_k».proof.Proof.Ref.Value
public import proofs.«01_k».proof.Proof.Model.Scalar

@[expose] public section

noncomputable section

namespace Cert.ReferenceIdeal.Value

open Idealize.ShloMosaic Idealize.ShloMosaic.StableHlo
open Cert.ReferenceIdeal Cert.ReferenceIdeal.Gen Cert.Model

variable (P : Args)

theorem xin_apply (b : Fin 8) (l : Fin 256) (e : Fin 768) : xin (F := Ideal) P.x P.win (ix3 b l e) = P.inner b l e := by
  pointwise [xin, xz]
  rfl

theorem zin_apply (b : Fin 8) (l : Fin 256) (e : Fin 768) : zin (F := Ideal) P.x P.win (ix3 b l e) = P.gate b l e := by
  pointwise [zin, xz]
  rfl

theorem cols_apply (x : Vec Ideal S8x256x768 .f32) (b : Fin 8) (l : Fin 256) (e : Fin 768) : cols x (ix3 b l e) = x (ix3 b (swap l) e) := by
  pointwise [cols]
  rfl

/-- The four orders of visiting, by number. -/
def ord : ℕ → ℕ → Fin 256
  | 0 => fwd
  | 1 => bwd
  | 2 => fwdT
  | _ => bwdT

/-- The channels read at step `p` of scanned sequence `b`. -/
def row (b : Fin 32) (p : ℕ) : Fin 768 → EReal := P.inner ⟨b.val % 8, by omega⟩ (ord (b.val / 8) p)

/-- The four orders, as arrays of the arguments. -/
def seqsOf : Vec Ideal S32x256x768 .f32 := four (xin (F := Ideal) P.x P.win)

theorem fwd_val (p : Fin 256) : fwd p.val = p := Fin.ext (Nat.mod_eq_of_lt p.isLt)
theorem bwd_val (p : Fin 256) : bwd p.val = p.rev := by
  refine Fin.ext ?_
  show (255 - p.val) % 256 = 256 - (p.val + 1)
  omega

/-- A scanned sequence's channels, by its order and its batch entry. -/
theorem row_eq (b : Fin 32) (p : ℕ) (e : Fin 768) (d : ℕ) (b' : Fin 8) (h : b.val = 8 * d + b'.val) : row P b p e = P.inner b' (ord d p) e := by
  unfold row
  have hb := b'.isLt
  have h1 : b.val / 8 = d := by omega
  have h2 : (⟨b.val % 8, by omega⟩ : Fin 8) = b' := Fin.ext (show b.val % 8 = b'.val by omega)
  rw [h1, h2]

theorem seqsOf_apply (b : Fin 32) (p : Fin 256) (e : Fin 768) : seqsOf P (ix3 b p e) = row P b p.val e := by
  have hb := b.isLt
  pointwise [seqsOf, four]
  simp [xin_apply, cols_apply]
  by_cases h0 : b.val < 8
  · rw [dif_pos h0]
    rw [row_eq P b p.val e 0 ⟨b.val, h0⟩ (by simp), show ord 0 p.val = p from fwd_val p]
  rw [dif_neg h0]
  by_cases h1 : b.val - 8 < 8
  · rw [dif_pos h1]
    rw [row_eq P b p.val e 1 ⟨b.val - 8, h1⟩ (by show b.val = 8 * 1 + (b.val - 8); omega), show ord 1 p.val = p.rev from bwd_val p]
  rw [dif_neg h1]
  by_cases h2 : b.val - 8 - 8 < 8
  · rw [dif_pos h2]
    rw [row_eq P b p.val e 2 ⟨b.val - 8 - 8, h2⟩ (by show b.val = 8 * 2 + (b.val - 8 - 8); omega),
      show ord 2 p.val = swap p from congrArg swap (fwd_val p)]
  · rw [dif_neg h2]
    rw [row_eq P b p.val e 3 ⟨b.val - 8 - 8 - 8, by omega⟩ (by show b.val = 8 * 3 + (b.val - 8 - 8 - 8); omega),
      show ord 3 p.val = swap p.rev from congrArg swap (bwd_val p)]

theorem lowsOf_apply (b : Fin 32) (p : Fin 256) (i : Fin 56) : low (seqsOf P) P.wx (ix3 b p i) = P.low (row P b p.val) i := by
  pointwise [low]
  exact Finset.sum_congr rfl fun e _ => congrArg (· * _) (seqsOf_apply P b p e)

/-- The step sizes. -/
def sizesOf : Vec Ideal S32x256x768 .f32 := plus (pre (low (seqsOf P) P.wx) P.wdt P.bdt)

theorem plus_apply (v : Vec Ideal S32x256x768 .f32) (b : Fin 32) (p : Fin 256) (e : Fin 768) :
    plus v (ix3 b p e) = Cert.Model.plus (v (ix3 b p e)) := by
  pointwise [plus]
  rw [if_neg (by simp)]
  rfl

theorem sizesOf_apply (b : Fin 32) (p : Fin 256) (e : Fin 768) : sizesOf P (ix3 b p e) = P.size (row P b p.val) e := by
  unfold sizesOf
  rw [plus_apply]
  refine congrArg Cert.Model.plus ?_
  pointwise [pre]
  refine congrArg (· + _) (Finset.sum_congr rfl fun x _ => congrArg (· * _) ?_)
  exact lowsOf_apply P b p _

theorem decays_apply (b : Fin 32) (p : Fin 256) (e : Fin 768) (n : Fin 16) :
    decays (sizesOf P) P.alog (ix4 p b e n) = P.decay (row P b p.val) e n := by
  pointwise [decays]
  rw [sizesOf_apply]
  rfl

theorem drives_apply (b : Fin 32) (p : Fin 256) (e : Fin 768) (n : Fin 16) :
    drives (sizesOf P) (seqsOf P) (low (seqsOf P) P.wx) (ix4 p b e n) = P.drive (row P b p.val) e n := by
  pointwise [drives]
  rw [sizesOf_apply, seqsOf_apply, lowsOf_apply]
  rfl

theorem coefs_apply (b : Fin 32) (p : Fin 256) (n : Fin 16) :
    coefs (low (seqsOf P) P.wx) (ix3 p b n) = P.coef (row P b p.val) n := by
  pointwise [coefs]
  rw [lowsOf_apply]
  rfl

end Cert.ReferenceIdeal.Value
-- ==== Proof.Model.Loop.lean ====
/-
  The reference's loop is the recurrence: before trip `k` the states are those before step `k`, and the readouts of the steps made are in place.
-/
module

public import proofs.«01_k».proof.Proof.Ref.Trip
public import proofs.«01_k».proof.Proof.Model.Rows

@[expose] public section

noncomputable section

namespace Cert.ReferenceIdeal.Value

open Idealize.ShloMosaic Idealize.ShloMosaic.StableHlo
open Cert.ReferenceIdeal Cert.ReferenceIdeal.Gen Cert.Model

/-- The arguments in some contents. -/
def argsOf (V : Valuation τ sig (Elt Ideal)) : Args where
  x := V (Proc.devRef .tc main_arg0)
  win := V (Proc.devRef .tc main_arg1)
  alog := V (Proc.devRef .tc main_arg2)
  wx := V (Proc.devRef .tc main_arg3)
  wdt := V (Proc.devRef .tc main_arg4)
  bdt := V (Proc.devRef .tc main_arg5)
  dskip := V (Proc.devRef .tc main_arg6)
  wout := V (Proc.devRef .tc main_arg7)
  gamma := V (Proc.devRef .tc main_arg8)
  beta := V (Proc.devRef .tc main_arg9)

section
variable (V : Valuation τ sig (Elt Ideal))

theorem cond_ctr : after condOps V (Proc.devRef .tc main_v42_3) = V (Proc.devRef .tc main_v42_3) := by after_reads_simp
theorem cond_decay : decayTab (after condOps V) = decayTab V := by unfold decayTab; after_reads_simp
theorem cond_drive : driveTab (after condOps V) = driveTab V := by unfold driveTab; after_reads_simp
theorem cond_coef : coefTab (after condOps V) = coefTab V := by unfold coefTab; after_reads_simp
theorem cond_state : stateTab (after condOps V) = stateTab V := by unfold stateTab; after_reads_simp
theorem cond_read : readTab (after condOps V) = readTab V := by unfold readTab; after_reads_simp

theorem entry_decay : decayTab (afterL preI V) = decays (sizesOf (argsOf V)) (argsOf V).alog := entry_v42_0 V
theorem entry_drive : driveTab (afterL preI V) = drives (sizesOf (argsOf V)) (seqsOf (argsOf V)) (low (seqsOf (argsOf V)) (argsOf V).wx) := entry_v42_1 V
theorem entry_coef : coefTab (afterL preI V) = coefs (low (seqsOf (argsOf V)) (argsOf V).wx) := entry_v42_2 V
theorem entry_state (b : Fin 32) (e : Fin 768) (n : Fin 16) : stateTab (afterL preI V) (ix3 b e n) = 0 := by
  unfold stateTab
  rw [entry_v42_4]
  show broadcastInDim S32x768x16 ![] bcast_S_S32x768x16 (constant (F := Ideal) S_ .f32 0x00000000#32) (ix3 b e n) = _
  pointwise
end

variable (m : (ℓ : Loc nD τ sig) → Buf (Elt Ideal) ℓ) (c : Dev nD)

/-- The contents before trip `k`. -/
def before (k : ℕ) : Valuation τ sig (Elt Ideal) := atTrip condOps bodyI (entryContents preI m) k c

/-- The run's arguments. -/
def runArgs : Args := argsOf (launchContents m c)

theorem before_kept (k : ℕ) (r : Ref sig .tc) (hr : r ∈ kept) :
    before m c k (Proc.devRef .tc r) = afterL preI (launchContents m c) (Proc.devRef .tc r) := kept_trips _ c r hr k

theorem before_decay (k : ℕ) : decayTab (before m c k) = decays (sizesOf (runArgs m c)) (runArgs m c).alog :=
  (before_kept m c k main_v42_0 (by decide)).trans (entry_decay _)
theorem before_drive (k : ℕ) :
    driveTab (before m c k) = drives (sizesOf (runArgs m c)) (seqsOf (runArgs m c)) (low (seqsOf (runArgs m c)) (runArgs m c).wx) :=
  (before_kept m c k main_v42_1 (by decide)).trans (entry_drive _)
theorem before_coef (k : ℕ) : coefTab (before m c k) = coefs (low (seqsOf (runArgs m c)) (runArgs m c).wx) :=
  (before_kept m c k main_v42_2 (by decide)).trans (entry_coef _)

/-- What the loop tests before trip `k`. -/
theorem before_ctr (k : ℕ) : after condOps (before m c k) (Proc.devRef .tc main_v42_3) = fun _ => Scf.iv 0#32 1#32 k :=
  (cond_ctr _).trans (atK_ctr m c k)

/-- The states before trip `k`. -/
theorem before_state : ∀ k, k ≤ 256 → ∀ (b : Fin 32) (e : Fin 768) (n : Fin 16),
    stateTab (before m c k) (ix3 b e n) = (runArgs m c).state (row (runArgs m c) b) k e n
  | 0, _, b, e, n => entry_state _ b e n
  | k + 1, hk, b, e, n => by
    have ih := before_state k (by omega) b e n
    show stateTab (afterL bodyI (after condOps (before m c k))) (ix3 b e n) = _
    rw [trip_state _ k (by omega) (before_ctr m c k), cond_decay, cond_drive, cond_state, ih, before_decay, before_drive, decays_apply, drives_apply]
    rfl

/-- The readouts before trip `k`, of the steps made. -/
theorem before_read : ∀ k, k ≤ 256 → ∀ (p : Fin 256) (b : Fin 32) (e : Fin 768), p.val < k →
    readTab (before m c k) (ix3 p b e) = (runArgs m c).contrib (row (runArgs m c) b) p.val e
  | 0, _, p, b, e, hp => absurd hp (Nat.not_lt_zero _)
  | k + 1, hk, p, b, e, hp => by
    have hs := before_state m c (k + 1) hk
    show readTab (afterL bodyI (after condOps (before m c k))) (ix3 p b e) = _
    rw [trip_readout _ k (by omega) (before_ctr m c k)]
    by_cases h : p.val = k
    · rw [if_pos h, h]
      refine Finset.sum_congr rfl fun n _ => ?_
      refine congrArg₂ (· * ·) (hs b e n) ?_
      rw [cond_coef, before_coef, coefs_apply]
    · rw [if_neg h, cond_read]
      exact before_read k (by omega) p b e (by omega)

end Cert.ReferenceIdeal.Value
-- ==== Proof.Model.Reference.lean ====
/-
  The reference computes the model's result.
-/
module

public import proofs.«01_k».proof.Proof.Ref.Final
public import proofs.«01_k».proof.Proof.Model.Loop

@[expose] public section

noncomputable section

namespace Cert.ReferenceIdeal.Value

open Idealize.ShloMosaic Idealize.ShloMosaic.StableHlo
open Cert.ReferenceIdeal Cert.ReferenceIdeal.Gen Cert.Model

section
variable (P : Args) (y : Vec Ideal S256x32x768 .f32) (b : Fin 8) (l : Fin 256) (e : Fin 768)

theorem part0_apply : part0 y (ix3 b l e) = y (ix3 l ⟨b.val, by omega⟩ e) := by pointwise [part0, bySeq]
theorem part1_apply : part1 y (ix3 b l e) = y (ix3 l ⟨8 + b.val, by omega⟩ e) := by pointwise [part1, bySeq]
theorem part2_apply : part2 y (ix3 b l e) = y (ix3 l ⟨16 + b.val, by omega⟩ e) := by pointwise [part2, bySeq]
theorem part3_apply : part3 y (ix3 b l e) = y (ix3 l ⟨24 + b.val, by omega⟩ e) := by pointwise [part3, bySeq]

theorem rev_apply (x : Vec Ideal S8x256x768 .f32) : Host.reverse [1] x (ix3 b l e) = x (ix3 b l.rev e) := by
  pointwise
  simp

/-- A sequence's readouts are those of its order of its batch entry. -/
theorem contrib_row (s : Fin 32) (d : ℕ) (p : ℕ) (h : s.val = 8 * d + b.val) : P.contrib (row P s) p e = P.dir b (ord d) p e := by
  rw [Args.dir, show row P s = fun q => P.inner b (ord d q) from funext fun q => funext fun e => row_eq P s q e d b h]

variable (hy : ∀ (p : Fin 256) (s : Fin 32) (e : Fin 768), y (ix3 p s e) = P.contrib (row P s) p.val e)
include hy

theorem together_apply : together y (ix3 b l e) = P.four b l e := by
  show part0 y (ix3 b l e) + Host.reverse [1] (part1 y) (ix3 b l e) + cols (part2 y) (ix3 b l e) + cols (Host.reverse [1] (part3 y)) (ix3 b l e) = _
  have rv : ∀ p : Fin 256, p.rev.val = 255 - p.val := fun p => by rw [Fin.val_rev]; omega
  rw [rev_apply, cols_apply, cols_apply, rev_apply, part0_apply, part1_apply, part2_apply, part3_apply, hy, hy, hy, hy,
    contrib_row P b e _ 0 _ (by simp), contrib_row P b e _ 1 _ rfl, contrib_row P b e _ 2 _ rfl, contrib_row P b e _ 3 _ rfl, rv, rv]
  rfl

theorem mixed_apply (x z : Vec Ideal S8x256x768 .f32) (hx : x (ix3 b l e) = P.inner b l e) (hz : z (ix3 b l e) = P.gate b l e) :
    mixed y x z P.dskip (ix3 b l e) = P.mixed b l e := by
  pointwise [mixed, average, silu]
  rw [together_apply P y b l e hy, hx, hz]
  rfl
end

section
variable (P : Args) (u : Vec Ideal S8x256x768 .f32) (hu : ∀ b l e, u (ix3 b l e) = P.mixed b l e) (b : Fin 8) (l : Fin 256) (i : Fin 384)
include hu

theorem proj_apply : proj u P.wout P.x (ix3 b l i) = P.proj b l i := by
  pointwise [proj]
  simp only [hu]
  rfl
end

/-- There are channels. -/
theorem count_pos : 0 < Ideal.ofBits .f32 0x43C00000#32 := by
  have h : Ideal.ofBits .f32 0x43C00000#32 = ((384 : ℝ) : EReal) := by
    simp [Ideal.ofBits, Ideal.ieee, -EReal.coe_mul]
    norm_num
  rw [h]
  exact_mod_cast (by norm_num : (0 : ℝ) < 384)

section
variable (P : Args) (v : Vec Ideal S8x256x384 .f32) (hv : ∀ b l i, v (ix3 b l i) = P.proj b l i) (b : Fin 8) (l : Fin 256) (i : Fin 384)

theorem total_apply : total v (ix3 b l 0) = ∑ i, v (ix3 b l i) := by
  pointwise [total]

include hv

theorem mean_apply : mean v (ix3 b l 0) = P.mean b l := by
  show Ideal.div (total v (ix3 b l 0)) _ = _
  rw [total_apply]
  simp only [hv]
  rfl

theorem centred_apply : centred v (ix3 b l i) = P.proj b l i - P.mean b l := by
  pointwise [centred]
  rw [hv, ← mean_apply P v hv]
  try rfl

theorem var_apply : var v (ix3 b l 0) = P.var b l := by
  pointwise [var, count]
  rw [show (FloatOps.sitofp (F := Ideal) .f32 0#32) = (0 : EReal) by simp [FloatOps.sitofp], sub_zero, if_pos count_pos, total_apply]
  simp only [show ∀ i, mulf (centred v) (centred v) (ix3 b l i) = centred v (ix3 b l i) * centred v (ix3 b l i) from fun _ => rfl,
    centred_apply P v hv]
  rfl

theorem norm_apply : norm v P.gamma P.beta (ix3 b l i) = P.out b l i := by
  pointwise [norm]
  rw [centred_apply P v hv, var_apply P v hv]
  rfl
end

theorem cond_arg (V : Valuation τ sig (Elt Ideal)) (r : Ref sig .tc) (hr : r ∈ arguments) : after condOps V (Proc.devRef .tc r) = V (Proc.devRef .tc r) := by
  simp only [arguments, List.mem_cons, List.not_mem_nil, or_false] at hr
  rcases hr with rfl | rfl | rfl | rfl | rfl | rfl | rfl | rfl | rfl | rfl <;> after_reads_simp

theorem cond_kept (V : Valuation τ sig (Elt Ideal)) (r : Ref sig .tc) (hr : r ∈ kept) : after condOps V (Proc.devRef .tc r) = V (Proc.devRef .tc r) := by
  simp only [kept, List.mem_cons, List.not_mem_nil, or_false] at hr
  rcases hr with rfl | rfl | rfl | rfl | rfl <;> after_reads_simp

variable (m : (ℓ : Loc nD τ sig) → Buf (Elt Ideal) ℓ) (c : Dev nD)

/-- The contents after the loop. -/
def afterLoop : Valuation τ sig (Elt Ideal) := after condOps (before m c 256)

theorem afterLoop_arg (r : Ref sig .tc) (hr : r ∈ arguments) : afterLoop m c (Proc.devRef .tc r) = launchContents m c (Proc.devRef .tc r) :=
  (cond_arg _ r hr).trans (((same_trips _ c 256).trans (same_pre _)) r hr)

theorem afterLoop_v2 : afterLoop m c (Proc.devRef .tc main_v2) = xin (F := Ideal) (runArgs m c).x (runArgs m c).win :=
  (cond_kept _ main_v2 (by decide)).trans ((before_kept m c 256 main_v2 (by decide)).trans (entry_v2 _))

theorem afterLoop_v3 : afterLoop m c (Proc.devRef .tc main_v3) = zin (F := Ideal) (runArgs m c).x (runArgs m c).win :=
  (cond_kept _ main_v3 (by decide)).trans ((before_kept m c 256 main_v3 (by decide)).trans (entry_v3 _))

theorem afterLoop_read (p : Fin 256) (b : Fin 32) (e : Fin 768) :
    readTab (afterLoop m c) (ix3 p b e) = (runArgs m c).contrib (row (runArgs m c) b) p.val e := by
  unfold afterLoop
  rw [cond_read]
  exact before_read m c 256 le_rfl p b e p.isLt

theorem projOf_apply (b : Fin 8) (l : Fin 256) (i : Fin 384) : projOf (afterLoop m c) (ix3 b l i) = (runArgs m c).proj b l i := by
  unfold projOf
  rw [afterLoop_arg m c main_arg6 (by decide), afterLoop_arg m c main_arg7 (by decide), afterLoop_arg m c main_arg0 (by decide), afterLoop_v2, afterLoop_v3]
  exact proj_apply (runArgs m c) _ (fun b l e => mixed_apply (runArgs m c) (readTab (afterLoop m c)) b l e (afterLoop_read m c) _ _
    (xin_apply _ b l e) (zin_apply _ b l e)) b l i

/-- The reference's result, entry by entry. -/
theorem result_apply (b : Fin 8) (l : Fin 256) (i : Fin 384) :
    (show Vec Ideal S8x256x384 .f32 from finalContents condOps preI bodyI postI 256 m c (Proc.devRef .tc main_v87)) (ix3 b l i) = (runArgs m c).out b l i := by
  have h : finalContents condOps preI bodyI postI 256 m c (Proc.devRef .tc main_v87)
      = norm (projOf (afterLoop m c)) (runArgs m c).gamma (runArgs m c).beta := by
    refine (final_v87 (afterLoop m c)).trans ?_
    rw [afterLoop_arg m c main_arg8 (by decide), afterLoop_arg m c main_arg9 (by decide)]
    rfl
  exact (congrFun h _).trans (norm_apply _ _ (projOf_apply m c) b l i)

end Cert.ReferenceIdeal.Value
-- ==== Proof.Equal.lean ====
/-
  The idealized kernel and the reference end with equal results: each computes the model's result of its arguments.
-/
module

public import proofs.«01_k».proof.Defs
public import proofs.«01_k».proof.Proof.Launch.Value
public import proofs.«01_k».proof.Proof.Model.Reference

@[expose] public section

noncomputable section

open Idealize.ShloMosaic Idealize.ShloMosaic.TcCoe
open Idealize.SL Idealize.SL.Sem
open Cert.Model

namespace Cert.KernelIdeal.Scan

open Cert.KernelIdeal.Gen

variable (m : (ℓ : Loc nD τ sig) → Buf (Elt Ideal) ℓ) (ρ : Dev nD → PrngReg)

/-- The kernel ends with the model's result and its arguments unchanged. -/
theorem value : θ_run defs (onTc (τ := τ) (main (F := Ideal))) ⟨m, fun _ => 0, ρ⟩ (fun r => ∀ c : Dev nD,
      r.2.mem ((c.tc : Thread nD τ).loc main_v0) = outcome (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => by
    have k : ∀ b ∈ Pipeline.restRefs sig spec0, V m c b = m ((c.tc : Thread nD τ).loc b) → r.2.mem ((c.tc : Thread nD τ).loc b) = m ((c.tc : Thread nD τ).loc b) :=
      fun b hb hv => ((h.1 c).2 b hb).trans hv
    exact ⟨((h.1 c).1 13).trans (final_value m c), ((h.1 c).1 0).trans (((dats m 0 c).arrAt_in 0 rfl _).trans (V_main_arg0 m c)),
      k _ (Pipeline.mem_restRefs_of main_arg1 (by decide) (by decide)) (V_main_arg1 m c),
      k _ (Pipeline.mem_restRefs_of main_arg2 (by decide) (by decide)) (V_main_arg2 m c),
      k _ (Pipeline.mem_restRefs_of main_arg3 (by decide) (by decide)) (V_main_arg3 m c),
      k _ (Pipeline.mem_restRefs_of main_arg4 (by decide) (by decide)) (V_main_arg4 m c),
      k _ (Pipeline.mem_restRefs_of main_arg5 (by decide) (by decide)) (V_main_arg5 m c),
      k _ (Pipeline.mem_restRefs_of main_arg6 (by decide) (by decide)) (V_main_arg6 m c),
      k _ (Pipeline.mem_restRefs_of main_arg7 (by decide) (by decide)) (V_main_arg7 m c),
      k _ (Pipeline.mem_restRefs_of main_arg8 (by decide) (by decide)) (V_main_arg8 m c),
      k _ (Pipeline.mem_restRefs_of main_arg9 (by decide) (by decide)) (V_main_arg9 m c)⟩) (run_main m ρ)

end Cert.KernelIdeal.Scan

namespace Cert.ReferenceIdeal.Value

open Cert.ReferenceIdeal.Gen

/-- The reference's result as an array. -/
theorem result_eq (m : (ℓ : Loc nD τ sig) → Buf (Elt Ideal) ℓ) (c : Dev nD) :
    StableHlo.finalContents condOps preI bodyI postI 256 m c (Proc.devRef .tc main_v87) = Cert.KernelIdeal.Scan.outcome (runArgs m c) := by
  funext j
  have e : j = ix3 (j 0) (j 1) (j 2) := eq_ix3 j
  rw [e]
  exact result_apply m c _ _ _

end Cert.ReferenceIdeal.Value

/-- The idealized kernel equals the reference over the extended reals. -/
theorem Cert.Proof.algebraic : Cert.algebraic_KernelIdeal_ReferenceIdeal := by
  intro m g m' g' _ hargs
  refine ⟨fun c => Cert.KernelIdeal.Scan.outcome (Cert.KernelIdeal.Scan.args m c), Cert.KernelIdeal.Scan.value m g, ?_⟩
  refine (θ_run _ _ _).mono (fun r h c => ?_) (Cert.ReferenceIdeal.Value.run_fold (F := Ideal) m' g')
  have ha : Cert.ReferenceIdeal.Value.runArgs m' c = Cert.KernelIdeal.Scan.args m c := by
    obtain ⟨h0, h1, h2, h3, h4, h5, h6, h7, h8, h9⟩ := hargs c
    exact Args.ext h0 h1 h2 h3 h4 h5 h6 h7 h8 h9
  have k : ∀ b ∈ Cert.ReferenceIdeal.Value.arguments, (Proc.devRef .tc b : DevRef Cert.ReferenceIdeal.τ Cert.ReferenceIdeal.sig).isScoped = false →
      r.2.mem ((c.tc : Thread Cert.ReferenceIdeal.nD Cert.ReferenceIdeal.τ).loc b) = m' ((c.tc : Thread Cert.ReferenceIdeal.nD Cert.ReferenceIdeal.τ).loc b) :=
    fun b hb hs => (h c b hs).trans (Cert.ReferenceIdeal.Value.same_run m' 256 c b hb)
  refine ⟨(h c Cert.ReferenceIdeal.main_v87 rfl).trans ((Cert.ReferenceIdeal.Value.result_eq m' c).trans (congrArg _ ha)), ?_, ?_, ?_, ?_, ?_, ?_, ?_, ?_, ?_, ?_⟩ <;>
    exact k _ (by decide) rfl

end
-- ==== Proof.lean ====
/-
  The proof of `Cert.Claim`: the frames of the two kernels and of the reference, that the idealization keeps the kernel,
  and that the idealized kernel equals the reference.
-/
module

public import proofs.«01_k».proof.Defs
public import proofs.«01_k».proof.Proof.Gen.Kernel
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch.Frame
public import proofs.«01_k».proof.Proof.Ref.Frame
public import proofs.«01_k».proof.Proof.Equal
public import Idealize.ShloMosaic.Adequacy
public import Idealize.ShloMosaic.Init

@[expose] public section

noncomputable section

open Idealize.ShloMosaic

/-- Every claim: the frames, that the idealization keeps the kernel, and that its result is the reference's. -/
theorem Cert.Proof.claim : Cert.Claim :=
  ⟨Cert.Kernel.Gen.facts, Cert.KernelIdeal.Gen.facts, Cert.ReferenceIdeal.Gen.facts,
    Cert.KernelIdeal.Scan.quiescent_bits, Cert.KernelIdeal.Scan.quiescent_ideal, Cert.ReferenceIdeal.Value.quiescent, trivial, Cert.Proof.algebraic⟩

end
